-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x128 : Shape := ⟨2, ![3200, 128]⟩
abbrev S128 : Shape := ⟨1, ![128]⟩
abbrev S128x5 : Shape := ⟨2, ![128, 5]⟩
abbrev S5 : Shape := ⟨1, ![5]⟩
abbrev S5x3200x128 : Shape := ⟨3, ![5, 3200, 128]⟩
abbrev S5x128 : Shape := ⟨2, ![5, 128]⟩
abbrev S5x128x128 : Shape := ⟨3, ![5, 128, 128]⟩
abbrev S128x10 : Shape := ⟨2, ![128, 10]⟩
abbrev S10 : Shape := ⟨1, ![10]⟩
abbrev S_ : Shape := ⟨0, ![]⟩

class Facts : Prop where
  bcast_S_S128x5 : S_.BroadcastsInDim S128x5 (![] : Fin 0 → Fin S128x5.rank)
  bcast_S_S5 : S_.BroadcastsInDim S5 (![] : Fin 0 → Fin S5.rank)

variable [Facts]

def fn {F : FTy → Type} [FloatOps F] (main_arg0 : FVec F S4096x1x28x28 .f32) (main_arg1 : FVec F S16x1x5x5 .f32) (main_arg2 : FVec F S16 .f32) (main_arg3 : FVec F S32x16x3x3 .f32) (main_arg4 : FVec F S32 .f32) (main_arg5 : FVec F S3200x128 .f32) (main_arg6 : FVec F S128 .f32) (main_arg7 : FVec F S3200x128 .f32) (main_arg8 : FVec F S128 .f32) (main_arg9 : FVec F S128x5 .f32) (main_arg10 : FVec F S5 .f32) (main_arg11 : FVec F S5x3200x128 .f32) (main_arg12 : FVec F S5x128 .f32) (main_arg13 : FVec F S5x128x128 .f32) (main_arg14 : FVec F S5x128 .f32) (main_arg15 : FVec F S128x10 .f32) (main_arg16 : FVec F S10 .f32) : IVec S128x5 1 × IVec S5 1 :=
  let main_v0 : FVec F S128x5 .f32 := Host.absf main_arg9
  let main_cst : FVec F S_ .f32 := constant S_ .f32 0x7F800000#32
  let main_v1 : FVec F S128x5 .f32 := broadcastInDim S128x5 ![] bcast_S_S128x5 main_cst
  let main_v2 : IVec S128x5 1 := cmpf .olt main_v0 main_v1
  let main_v3 : FVec F S5 .f32 := Host.absf main_arg10
  let main_cst_0 : FVec F S_ .f32 := constant S_ .f32 0x7F800000#32
  let main_v4 : FVec F S5 .f32 := broadcastInDim S5 ![] bcast_S_S5 main_cst_0
  let main_v5 : IVec S5 1 := cmpf .olt main_v3 main_v4
  (main_v2, main_v5)
-- ==== Kernel.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x128 : Shape := ⟨2, ![3200, 128]⟩
abbrev S128 : Shape := ⟨1, ![128]⟩
abbrev S128x5 : Shape := ⟨2, ![128, 5]⟩
abbrev S5 : Shape := ⟨1, ![5]⟩
abbrev S5x3200x128 : Shape := ⟨3, ![5, 3200, 128]⟩
abbrev S5x128 : Shape := ⟨2, ![5, 128]⟩
abbrev S5x128x128 : Shape := ⟨3, ![5, 128, 128]⟩
abbrev S128x10 : Shape := ⟨2, ![128, 10]⟩
abbrev S10 : Shape := ⟨1, ![10]⟩
abbrev S4096x784 : Shape := ⟨2, ![4096, 784]⟩
abbrev S16x5x5 : Shape := ⟨3, ![16, 5, 5]⟩
abbrev S28x24x5 : Shape := ⟨3, ![28, 24, 5]⟩
abbrev S16x5x28x24 : Shape := ⟨4, ![16, 5, 28, 24]⟩
abbrev S5x28x24x16 : Shape := ⟨4, ![5, 28, 24, 16]⟩
abbrev S140x384 : Shape := ⟨2, ![140, 384]⟩
abbrev S_ : Shape := ⟨0, ![]⟩
abbrev S168x768 : Shape := ⟨2, ![168, 768]⟩
abbrev S1 : Shape := ⟨1, ![1]⟩
abbrev S2 : Shape := ⟨1, ![2]⟩
abbrev S1x16 : Shape := ⟨2, ![1, 16]⟩
abbrev S1x1x1x16 : Shape := ⟨4, ![1, 1, 1, 16]⟩
abbrev S24x1x1x16 : Shape := ⟨4, ![24, 1, 1, 16]⟩
abbrev S24x16 : Shape := ⟨2, ![24, 16]⟩
abbrev S1x384 : Shape := ⟨2, ![1, 384]⟩
abbrev S12x10x3 : Shape := ⟨3, ![12, 10, 3]⟩
abbrev S32x16x3x12x10 : Shape := ⟨5, ![32, 16, 3, 12, 10]⟩
abbrev S3x12x16x10x32 : Shape := ⟨5, ![3, 12, 16, 10, 32]⟩
abbrev S3x12x2x16x10x32 : Shape := ⟨6, ![3, 12, 2, 16, 10, 32]⟩
abbrev S1152x320 : Shape := ⟨2, ![1152, 320]⟩
abbrev S1x32 : Shape := ⟨2, ![1, 32]⟩
abbrev S1x1x1x32 : Shape := ⟨4, ![1, 1, 1, 32]⟩
abbrev S10x1x1x32 : Shape := ⟨4, ![10, 1, 1, 32]⟩
abbrev S10x32 : Shape := ⟨2, ![10, 32]⟩
abbrev S1x320 : Shape := ⟨2, ![1, 320]⟩
abbrev S32x10x10x128 : Shape := ⟨4, ![32, 10, 10, 128]⟩
abbrev S10x10x32x128 : Shape := ⟨4, ![10, 10, 32, 128]⟩
abbrev S10x320x128 : Shape := ⟨3, ![10, 320, 128]⟩
abbrev S10x320x256 : Shape := ⟨3, ![10, 320, 256]⟩
abbrev S256 : Shape := ⟨1, ![256]⟩
abbrev S1x256 : Shape := ⟨2, ![1, 256]⟩
abbrev S1x3200x128 : Shape := ⟨3, ![1, 3200, 128]⟩
abbrev S1x10x320x128 : Shape := ⟨4, ![1, 10, 320, 128]⟩
abbrev S5x10x320x128 : Shape := ⟨4, ![5, 10, 320, 128]⟩
abbrev S10x320x5x128 : Shape := ⟨4, ![10, 320, 5, 128]⟩
abbrev S10x320x640 : Shape := ⟨3, ![10, 320, 640]⟩
abbrev S1x640 : Shape := ⟨2, ![1, 640]⟩
abbrev S1x5 : Shape := ⟨2, ![1, 5]⟩
abbrev S5x1x128 : Shape := ⟨3, ![5, 1, 128]⟩
abbrev S1x10 : Shape := ⟨2, ![1, 10]⟩
abbrev S4096x10 : Shape := ⟨2, ![4096, 10]⟩
abbrev S256x784 : Shape := ⟨2, ![256, 784]⟩
abbrev S256x10 : Shape := ⟨2, ![256, 10]⟩
abbrev S256x168 : Shape := ⟨2, ![256, 168]⟩
abbrev S256x768 : Shape := ⟨2, ![256, 768]⟩
abbrev S256x384 : Shape := ⟨2, ![256, 384]⟩
abbrev S256x1152 : Shape := ⟨2, ![256, 1152]⟩
abbrev S256x320 : Shape := ⟨2, ![256, 320]⟩
abbrev S1x320x256 : Shape := ⟨3, ![1, 320, 256]⟩
abbrev S320x256 : Shape := ⟨2, ![320, 256]⟩
abbrev S256x256 : Shape := ⟨2, ![256, 256]⟩
abbrev S256x128 : Shape := ⟨2, ![256, 128]⟩
abbrev S256x5 : Shape := ⟨2, ![256, 5]⟩
abbrev S256x1 : Shape := ⟨2, ![256, 1]⟩
abbrev S1x320x640 : Shape := ⟨3, ![1, 320, 640]⟩
abbrev S320x640 : Shape := ⟨2, ![320, 640]⟩
abbrev S256x640 : Shape := ⟨2, ![256, 640]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 113
  | .vmem => 18
  | .smem => 0
  | _ => 0

abbrev bufTy : (tb : Table) → Fin (tcTables nBuf tb) → BufTy
  | .hbm, ⟨0, _⟩ => ⟨S4096x1x28x28, .f32⟩
  | .hbm, ⟨1, _⟩ => ⟨S16x1x5x5, .f32⟩
  | .hbm, ⟨2, _⟩ => ⟨S16, .f32⟩
  | .hbm, ⟨3, _⟩ => ⟨S32x16x3x3, .f32⟩
  | .hbm, ⟨4, _⟩ => ⟨S32, .f32⟩
  | .hbm, ⟨5, _⟩ => ⟨S3200x128, .f32⟩
  | .hbm, ⟨6, _⟩ => ⟨S128, .f32⟩
  | .hbm, ⟨7, _⟩ => ⟨S3200x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S5x3200x128, .f32⟩
  | .hbm, ⟨12, _⟩ => ⟨S5x128, .f32⟩
  | .hbm, ⟨13, _⟩ => ⟨S5x128x128, .f32⟩
  | .hbm, ⟨14, _⟩ => ⟨S5x128, .f32⟩
  | .hbm, ⟨15, _⟩ => ⟨S128x10, .f32⟩
  | .hbm, ⟨16, _⟩ => ⟨S10, .f32⟩
  | .hbm, ⟨17, _⟩ => ⟨S4096x784, .f32⟩
  | .hbm, ⟨18, _⟩ => ⟨S16x5x5, .f32⟩
  | .hbm, ⟨19, _⟩ => ⟨S28x24x5, .i32⟩
  | .hbm, ⟨20, _⟩ => ⟨S28x24x5, .i32⟩
  | .hbm, ⟨21, _⟩ => ⟨S28x24x5, .i32⟩
  | .hbm, ⟨22, _⟩ => ⟨S28x24x5, .i32⟩
  | .hbm, ⟨23, _⟩ => ⟨S28x24x5, .i1⟩
  | .hbm, ⟨24, _⟩ => ⟨S28x24x5, .f32⟩
  | .hbm, ⟨25, _⟩ => ⟨S16x5x28x24, .f32⟩
  | .hbm, ⟨26, _⟩ => ⟨S5x28x24x16, .f32⟩
  | .hbm, ⟨27, _⟩ => ⟨S140x384, .f32⟩
  | .hbm, ⟨28, _⟩ => ⟨S_, .f32⟩
  | .hbm, ⟨29, _⟩ => ⟨S168x768, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S168x768, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S168x768, .f32⟩
  | .hbm, ⟨42, _⟩ => ⟨S1x16, .f32⟩
  | .hbm, ⟨43, _⟩ => ⟨S1x1x1x16, .f32⟩
  | .hbm, ⟨44, _⟩ => ⟨S24x1x1x16, .f32⟩
  | .hbm, ⟨45, _⟩ => ⟨S24x16, .f32⟩
  | .hbm, ⟨46, _⟩ => ⟨S1x384, .f32⟩
  | .hbm, ⟨47, _⟩ => ⟨S12x10x3, .i32⟩
  | .hbm, ⟨48, _⟩ => ⟨S12x10x3, .i32⟩
  | .hbm, ⟨49, _⟩ => ⟨S12x10x3, .i32⟩
  | .hbm, ⟨50, _⟩ => ⟨S12x10x3, .i32⟩
  | .hbm, ⟨51, _⟩ => ⟨S12x10x3, .i1⟩
  | .hbm, ⟨52, _⟩ => ⟨S12x10x3, .f32⟩
  | .hbm, ⟨53, _⟩ => ⟨S32x16x3x12x10, .f32⟩
  | .hbm, ⟨54, _⟩ => ⟨S3x12x16x10x32, .f32⟩
  | .hbm, ⟨55, _⟩ => ⟨S_, .f32⟩
  | .hbm, ⟨56, _⟩ => ⟨S3x12x2x16x10x32, .f32⟩
  | .hbm, ⟨57, _⟩ => ⟨S_, .i32⟩
  | .hbm, ⟨58, _⟩ => ⟨S1, .i32⟩
  | .hbm, ⟨59, _⟩ => ⟨S3x12x2x16x10x32, .f32⟩
  | .hbm, ⟨60, _⟩ => ⟨S1152x320, .f32⟩
  | .hbm, ⟨61, _⟩ => ⟨S1x32, .f32⟩
  | .hbm, ⟨62, _⟩ => ⟨S1x1x1x32, .f32⟩
  | .hbm, ⟨63, _⟩ => ⟨S10x1x1x32, .f32⟩
  | .hbm, ⟨64, _⟩ => ⟨S10x32, .f32⟩
  | .hbm, ⟨65, _⟩ => ⟨S1x320, .f32⟩
  | .hbm, ⟨66, _⟩ => ⟨S32x10x10x128, .f32⟩
  | .hbm, ⟨67, _⟩ => ⟨S10x10x32x128, .f32⟩
  | .hbm, ⟨68, _⟩ => ⟨S10x320x128, .f32⟩
  | .hbm, ⟨69, _⟩ => ⟨S32x10x10x128, .f32⟩
  | .hbm, ⟨70, _⟩ => ⟨S10x10x32x128, .f32⟩
  | .hbm, ⟨71, _⟩ => ⟨S10x320x128, .f32⟩
  | .hbm, ⟨72, _⟩ => ⟨S10x320x256, .f32⟩
  | .hbm, ⟨73, _⟩ => ⟨S256, .f32⟩
  | .hbm, ⟨74, _⟩ => ⟨S1x256, .f32⟩
  | .hbm, ⟨75, _⟩ => ⟨S1x3200x128, .f32⟩
  | .hbm, ⟨76, _⟩ => ⟨S3200x128, .f32⟩
  | .hbm, ⟨77, _⟩ => ⟨S32x10x10x128, .f32⟩
  | .hbm, ⟨78, _⟩ => ⟨S10x10x32x128, .f32⟩
  | .hbm, ⟨79, _⟩ => ⟨S10x320x128, .f32⟩
  | .hbm, ⟨80, _⟩ => ⟨S1x3200x128, .f32⟩
  | .hbm, ⟨81, _⟩ => ⟨S3200x128, .f32⟩
  | .hbm, ⟨82, _⟩ => ⟨S32x10x10x128, .f32⟩
  | .hbm, ⟨83, _⟩ => ⟨S10x10x32x128, .f32⟩
  | .hbm, ⟨84, _⟩ => ⟨S10x320x128, .f32⟩
  | .hbm, ⟨85, _⟩ => ⟨S1x3200x128, .f32⟩
  | .hbm, ⟨86, _⟩ => ⟨S3200x128, .f32⟩
  | .hbm, ⟨87, _⟩ => ⟨S32x10x10x128, .f32⟩
  | .hbm, ⟨88, _⟩ => ⟨S10x10x32x128, .f32⟩
  | .hbm, ⟨89, _⟩ => ⟨S10x320x128, .f32⟩
  | .hbm, ⟨90, _⟩ => ⟨S1x3200x128, .f32⟩
  | .hbm, ⟨91, _⟩ => ⟨S3200x128, .f32⟩
  | .hbm, ⟨92, _⟩ => ⟨S32x10x10x128, .f32⟩
  | .hbm, ⟨93, _⟩ => ⟨S10x10x32x128, .f32⟩
  | .hbm, ⟨94, _⟩ => ⟨S10x320x128, .f32⟩
  | .hbm, ⟨95, _⟩ => ⟨S1x3200x128, .f32⟩
  | .hbm, ⟨96, _⟩ => ⟨S3200x128, .f32⟩
  | .hbm, ⟨97, _⟩ => ⟨S32x10x10x128, .f32⟩
  | .hbm, ⟨98, _⟩ => ⟨S10x10x32x128, .f32⟩
  | .hbm, ⟨99, _⟩ => ⟨S10x320x128, .f32⟩
  | .hbm, ⟨100, _⟩ => ⟨S1x10x320x128, .f32⟩
  | .hbm, ⟨101, _⟩ => ⟨S1x10x320x128, .f32⟩
  | .hbm, ⟨102, _⟩ => ⟨S1x10x320x128, .f32⟩
  | .hbm, ⟨103, _⟩ => ⟨S1x10x320x128, .f32⟩
  | .hbm, ⟨104, _⟩ => ⟨S1x10x320x128, .f32⟩
  | .hbm, ⟨105, _⟩ => ⟨S5x10x320x128, .f32⟩
  | .hbm, ⟨106, _⟩ => ⟨S10x320x5x128, .f32⟩
  | .hbm, ⟨107, _⟩ => ⟨S10x320x640, .f32⟩
  | .hbm, ⟨108, _⟩ => ⟨S1x640, .f32⟩
  | .hbm, ⟨109, _⟩ => ⟨S1x5, .f32⟩
  | .hbm, ⟨110, _⟩ => ⟨S5x1x128, .f32⟩
  | .hbm, ⟨111, _⟩ => ⟨S1x10, .f32⟩
  | .hbm, ⟨112, _⟩ => ⟨S4096x10, .f32⟩
  | .local _ .vmem, ⟨0, _⟩ => ⟨S256x784, .f32⟩
  | .local _ .vmem, ⟨1, _⟩ => ⟨S256x784, .f32⟩
  | .local _ .vmem, ⟨2, _⟩ => ⟨S168x768, .f32⟩
  | .local _ .vmem, ⟨3, _⟩ => ⟨S1x384, .f32⟩
  | .local _ .vmem, ⟨4, _⟩ => ⟨S1152x320, .f32⟩
  | .local _ .vmem, ⟨5, _⟩ => ⟨S1x320, .f32⟩
  | .local _ .vmem, ⟨6, _⟩ => ⟨S10x320x256, .f32⟩
  | .local _ .vmem, ⟨7, _⟩ => ⟨S1x256, .f32⟩
  | .local _ .vmem, ⟨8, _⟩ => ⟨S128x5, .f32⟩
  | .local _ .vmem, ⟨9, _⟩ => ⟨S1x5, .f32⟩
  | .local _ .vmem, ⟨10, _⟩ => ⟨S10x320x640, .f32⟩
  | .local _ .vmem, ⟨11, _⟩ => ⟨S1x640, .f32⟩
  | .local _ .vmem, ⟨12, _⟩ => ⟨S5x128x128, .f32⟩
  | .local _ .vmem, ⟨13, _⟩ => ⟨S5x1x128, .f32⟩
  | .local _ .vmem, ⟨14, _⟩ => ⟨S128x10, .f32⟩
  | .local _ .vmem, ⟨15, _⟩ => ⟨S1x10, .f32⟩
  | .local _ .vmem, ⟨16, _⟩ => ⟨S256x10, .f32⟩
  | .local _ .vmem, ⟨17, _⟩ => ⟨S256x10, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S168x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x320x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x320x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S4096x1x28x28 : Shape := ⟨4, ![4096, 1, 28, 28]⟩
abbrev S16x1x5x5 : Shape := ⟨4, ![16, 1, 5, 5]⟩
abbrev S16 : Shape := ⟨1, ![16]⟩
abbrev S32x16x3x3 : Shape := ⟨4, ![32, 16, 3, 3]⟩
abbrev S32 : Shape := ⟨1, ![32]⟩
abbrev S3200x128 : Shape := ⟨2, ![3200, 128]⟩
abbrev S128 : Shape := ⟨1, ![128]⟩
abbrev S128x5 : Shape := ⟨2, ![128, 5]⟩
abbrev S5 : Shape := ⟨1, ![5]⟩
abbrev S5x3200x128 : Shape := ⟨3, ![5, 3200, 128]⟩
abbrev S5x128 : Shape := ⟨2, ![5, 128]⟩
abbrev S5x128x128 : Shape := ⟨3, ![5, 128, 128]⟩
abbrev S128x10 : Shape := ⟨2, ![128, 10]⟩
abbrev S10 : Shape := ⟨1, ![10]⟩
abbrev S_ : Shape := ⟨0, ![]⟩
abbrev S4096x16x24x24 : Shape := ⟨4, ![4096, 16, 24, 24]⟩
abbrev S4096x1x24x24 : Shape := ⟨4, ![4096, 1, 24, 24]⟩
abbrev S16x1x1x1 : Shape := ⟨4, ![16, 1, 1, 1]⟩
abbrev S16x1 : Shape := ⟨2, ![16, 1]⟩
abbrev S16x4096x24x24 : Shape := ⟨4, ![16, 4096, 24, 24]⟩
abbrev S1x16x1x1 : Shape := ⟨4, ![1, 16, 1, 1]⟩
abbrev S4096x16x12x2x12x2 : Shape := ⟨6, ![4096, 16, 12, 2, 12, 2]⟩
abbrev S4096x16x12x12 : Shape := ⟨4, ![4096, 16, 12, 12]⟩
abbrev S4096x32x10x10 : Shape := ⟨4, ![4096, 32, 10, 10]⟩
abbrev S4096x16x10x10 : Shape := ⟨4, ![4096, 16, 10, 10]⟩
abbrev S32x16x1x1 : Shape := ⟨4, ![32, 16, 1, 1]⟩
abbrev S32x16 : Shape := ⟨2, ![32, 16]⟩
abbrev S32x4096x10x10 : Shape := ⟨4, ![32, 4096, 10, 10]⟩
abbrev S1x32x1x1 : Shape := ⟨4, ![1, 32, 1, 1]⟩
abbrev S4096x3200 : Shape := ⟨2, ![4096, 3200]⟩
abbrev S4096x128 : Shape := ⟨2, ![4096, 128]⟩
abbrev S1x128 : Shape := ⟨2, ![1, 128]⟩
abbrev S4096x5 : Shape := ⟨2, ![4096, 5]⟩
abbrev S1x5 : Shape := ⟨2, ![1, 5]⟩
abbrev S4096x3 : Shape := ⟨2, ![4096, 3]⟩
abbrev S4096 : Shape := ⟨1, ![4096]⟩
abbrev S4096x1 : Shape := ⟨2, ![4096, 1]⟩
abbrev S4096x5x128 : Shape := ⟨3, ![4096, 5, 128]⟩
abbrev S1x5x128 : Shape := ⟨3, ![1, 5, 128]⟩
abbrev S5x128x4096 : Shape := ⟨3, ![5, 128, 4096]⟩
abbrev S4096x3x1 : Shape := ⟨3, ![4096, 3, 1]⟩
abbrev S1 : Shape := ⟨1, ![1]⟩
abbrev S1x1x1 : Shape := ⟨3, ![1, 1, 1]⟩
abbrev S4096x3x128 : Shape := ⟨3, ![4096, 3, 128]⟩
abbrev S4096x10 : Shape := ⟨2, ![4096, 10]⟩
abbrev S1x10 : Shape := ⟨2, ![1, 10]⟩

abbrev nBuf : Space → Nat
  | .hbm => 332
  | .vmem => 0
  | .smem => 0
  | _ => 0

abbrev hbmTy0_0 (i : Nat) : BufTy := match i % 128 with
  | 0 => ⟨S4096x1x28x28, .f32⟩
  | 1 => ⟨S16x1x5x5, .f32⟩
  | 2 => ⟨S16, .f32⟩
  | 3 => ⟨S32x16x3x3, .f32⟩
  | 4 => ⟨S32, .f32⟩
  | 5 => ⟨S3200x128, .f32⟩
  | 6 => ⟨S128, .f32⟩
  | 7 => ⟨S3200x128, .f32⟩
  | 8 => ⟨S128, .f32⟩
  | 9 => ⟨S128x5, .f32⟩
  | 10 => ⟨S5, .f32⟩
  | 11 => ⟨S5x3200x128, .f32⟩
  | 12 => ⟨S5x128, .f32⟩
  | 13 => ⟨S5x128x128, .f32⟩
  | 14 => ⟨S5x128, .f32⟩
  | 15 => ⟨S128x10, .f32⟩
  | 16 => ⟨S10, .f32⟩
  | 17 => ⟨S_, .f32⟩
  | 18 => ⟨S4096x16x24x24, .f32⟩
  | 19 => ⟨S4096x1x24x24, .f32⟩
  | 20 => ⟨S16x1x1x1, .f32⟩
  | 21 => ⟨S16x1, .f32⟩
  | 22 => ⟨S16x4096x24x24, .f32⟩
  | 23 => ⟨S4096x16x24x24, .f32⟩
  | 24 => ⟨S4096x16x24x24, .f32⟩
  | 25 => ⟨S4096x1x24x24, .f32⟩
  | 26 => ⟨S16x1x1x1, .f32⟩
  | 27 => ⟨S16x1, .f32⟩
  | 28 => ⟨S16x4096x24x24, .f32⟩
  | 29 => ⟨S4096x16x24x24, .f32⟩
  | 30 => ⟨S4096x16x24x24, .f32⟩
  | 31 => ⟨S4096x1x24x24, .f32⟩
  | 32 => ⟨S16x1x1x1, .f32⟩
  | 33 => ⟨S16x1, .f32⟩
  | 34 => ⟨S16x4096x24x24, .f32⟩
  | 35 => ⟨S4096x16x24x24, .f32⟩
  | 36 => ⟨S4096x16x24x24, .f32⟩
  | 37 => ⟨S4096x1x24x24, .f32⟩
  | 38 => ⟨S16x1x1x1, .f32⟩
  | 39 => ⟨S16x1, .f32⟩
  | 40 => ⟨S16x4096x24x24, .f32⟩
  | 41 => ⟨S4096x16x24x24, .f32⟩
  | 42 => ⟨S4096x16x24x24, .f32⟩
  | 43 => ⟨S4096x1x24x24, .f32⟩
  | 44 => ⟨S16x1x1x1, .f32⟩
  | 45 => ⟨S16x1, .f32⟩
  | 46 => ⟨S16x4096x24x24, .f32⟩
  | 47 => ⟨S4096x16x24x24, .f32⟩
  | 48 => ⟨S4096x16x24x24, .f32⟩
  | 49 => ⟨S4096x1x24x24, .f32⟩
  | 50 => ⟨S16x1x1x1, .f32⟩
  | 51 => ⟨S16x1, .f32⟩
  | 52 => ⟨S16x4096x24x24, .f32⟩
  | 53 => ⟨S4096x16x24x24, .f32⟩
  | 54 => ⟨S4096x16x24x24, .f32⟩
  | 55 => ⟨S4096x1x24x24, .f32⟩
  | 56 => ⟨S16x1x1x1, .f32⟩
  | 57 => ⟨S16x1, .f32⟩
  | 58 => ⟨S16x4096x24x24, .f32⟩
  | 59 => ⟨S4096x16x24x24, .f32⟩
  | 60 => ⟨S4096x16x24x24, .f32⟩
  | 61 => ⟨S4096x1x24x24, .f32⟩
  | 62 => ⟨S16x1x1x1, .f32⟩
  | 63 => ⟨S16x1, .f32⟩
  | 64 => ⟨S16x4096x24x24, .f32⟩
  | 65 => ⟨S4096x16x24x24, .f32⟩
  | 66 => ⟨S4096x16x24x24, .f32⟩
  | 67 => ⟨S4096x1x24x24, .f32⟩
  | 68 => ⟨S16x1x1x1, .f32⟩
  | 69 => ⟨S16x1, .f32⟩
  | 70 => ⟨S16x4096x24x24, .f32⟩
  | 71 => ⟨S4096x16x24x24, .f32⟩
  | 72 => ⟨S4096x16x24x24, .f32⟩
  | 73 => ⟨S4096x1x24x24, .f32⟩
  | 74 => ⟨S16x1x1x1, .f32⟩
  | 75 => ⟨S16x1, .f32⟩
  | 76 => ⟨S16x4096x24x24, .f32⟩
  | 77 => ⟨S4096x16x24x24, .f32⟩
  | 78 => ⟨S4096x16x24x24, .f32⟩
  | 79 => ⟨S4096x1x24x24, .f32⟩
  | 80 => ⟨S16x1x1x1, .f32⟩
  | 81 => ⟨S16x1, .f32⟩
  | 82 => ⟨S16x4096x24x24, .f32⟩
  | 83 => ⟨S4096x16x24x24, .f32⟩
  | 84 => ⟨S4096x16x24x24, .f32⟩
  | 85 => ⟨S4096x1x24x24, .f32⟩
  | 86 => ⟨S16x1x1x1, .f32⟩
  | 87 => ⟨S16x1, .f32⟩
  | 88 => ⟨S16x4096x24x24, .f32⟩
  | 89 => ⟨S4096x16x24x24, .f32⟩
  | 90 => ⟨S4096x16x24x24, .f32⟩
  | 91 => ⟨S4096x1x24x24, .f32⟩
  | 92 => ⟨S16x1x1x1, .f32⟩
  | 93 => ⟨S16x1, .f32⟩
  | 94 => ⟨S16x4096x24x24, .f32⟩
  | 95 => ⟨S4096x16x24x24, .f32⟩
  | 96 => ⟨S4096x16x24x24, .f32⟩
  | 97 => ⟨S4096x1x24x24, .f32⟩
  | 98 => ⟨S16x1x1x1, .f32⟩
  | 99 => ⟨S16x1, .f32⟩
  | 100 => ⟨S16x4096x24x24, .f32⟩
  | 101 => ⟨S4096x16x24x24, .f32⟩
  | 102 => ⟨S4096x16x24x24, .f32⟩
  | 103 => ⟨S4096x1x24x24, .f32⟩
  | 104 => ⟨S16x1x1x1, .f32⟩
  | 105 => ⟨S16x1, .f32⟩
  | 106 => ⟨S16x4096x24x24, .f32⟩
  | 107 => ⟨S4096x16x24x24, .f32⟩
  | 108 => ⟨S4096x16x24x24, .f32⟩
  | 109 => ⟨S4096x1x24x24, .f32⟩
  | 110 => ⟨S16x1x1x1, .f32⟩
  | 111 => ⟨S16x1, .f32⟩
  | 112 => ⟨S16x4096x24x24, .f32⟩
  | 113 => ⟨S4096x16x24x24, .f32⟩
  | 114 => ⟨S4096x16x24x24, .f32⟩
  | 115 => ⟨S4096x1x24x24, .f32⟩
  | 116 => ⟨S16x1x1x1, .f32⟩
  | 117 => ⟨S16x1, .f32⟩
  | 118 => ⟨S16x4096x24x24, .f32⟩
  | 119 => ⟨S4096x16x24x24, .f32⟩
  | 120 => ⟨S4096x16x24x24, .f32⟩
  | 121 => ⟨S4096x1x24x24, .f32⟩
  | 122 => ⟨S16x1x1x1, .f32⟩
  | 123 => ⟨S16x1, .f32⟩
  | 124 => ⟨S16x4096x24x24, .f32⟩
  | 125 => ⟨S4096x16x24x24, .f32⟩
  | 126 => ⟨S4096x16x24x24, .f32⟩
  | 127 => ⟨S4096x1x24x24, .f32⟩
  | _ => ⟨S4096x1x28x28, .f32⟩

abbrev hbmTy0_1 (i : Nat) : BufTy := match i % 128 with
  | 0 => ⟨S16x1x1x1, .f32⟩
  | 1 => ⟨S16x1, .f32⟩
  | 2 => ⟨S16x4096x24x24, .f32⟩
  | 3 => ⟨S4096x16x24x24, .f32⟩
  | 4 => ⟨S4096x16x24x24, .f32⟩
  | 5 => ⟨S4096x1x24x24, .f32⟩
  | 6 => ⟨S16x1x1x1, .f32⟩
  | 7 => ⟨S16x1, .f32⟩
  | 8 => ⟨S16x4096x24x24, .f32⟩
  | 9 => ⟨S4096x16x24x24, .f32⟩
  | 10 => ⟨S4096x16x24x24, .f32⟩
  | 11 => ⟨S4096x1x24x24, .f32⟩
  | 12 => ⟨S16x1x1x1, .f32⟩
  | 13 => ⟨S16x1, .f32⟩
  | 14 => ⟨S16x4096x24x24, .f32⟩
  | 15 => ⟨S4096x16x24x24, .f32⟩
  | 16 => ⟨S4096x16x24x24, .f32⟩
  | 17 => ⟨S4096x1x24x24, .f32⟩
  | 18 => ⟨S16x1x1x1, .f32⟩
  | 19 => ⟨S16x1, .f32⟩
  | 20 => ⟨S16x4096x24x24, .f32⟩
  | 21 => ⟨S4096x16x24x24, .f32⟩
  | 22 => ⟨S4096x16x24x24, .f32⟩
  | 23 => ⟨S4096x1x24x24, .f32⟩
  | 24 => ⟨S16x1x1x1, .f32⟩
  | 25 => ⟨S16x1, .f32⟩
  | 26 => ⟨S16x4096x24x24, .f32⟩
  | 27 => ⟨S4096x16x24x24, .f32⟩
  | 28 => ⟨S4096x16x24x24, .f32⟩
  | 29 => ⟨S4096x1x24x24, .f32⟩
  | 30 => ⟨S16x1x1x1, .f32⟩
  | 31 => ⟨S16x1, .f32⟩
  | 32 => ⟨S16x4096x24x24, .f32⟩
  | 33 => ⟨S4096x16x24x24, .f32⟩
  | 34 => ⟨S4096x16x24x24, .f32⟩
  | 35 => ⟨S4096x1x24x24, .f32⟩
  | 36 => ⟨S16x1x1x1, .f32⟩
  | 37 => ⟨S16x1, .f32⟩
  | 38 => ⟨S16x4096x24x24, .f32⟩
  | 39 => ⟨S4096x16x24x24, .f32⟩
  | 40 => ⟨S4096x16x24x24, .f32⟩
  | 41 => ⟨S1x16x1x1, .f32⟩
  | 42 => ⟨S4096x16x24x24, .f32⟩
  | 43 => ⟨S4096x16x24x24, .f32⟩
  | 44 => ⟨S4096x16x24x24, .f32⟩
  | 45 => ⟨S4096x16x12x2x12x2, .f32⟩
  | 46 => ⟨S_, .f32⟩
  | 47 => ⟨S4096x16x12x12, .f32⟩
  | 48 => ⟨S_, .f32⟩
  | 49 => ⟨S4096x32x10x10, .f32⟩
  | 50 => ⟨S4096x16x10x10, .f32⟩
  | 51 => ⟨S32x16x1x1, .f32⟩
  | 52 => ⟨S32x16, .f32⟩
  | 53 => ⟨S32x4096x10x10, .f32⟩
  | 54 => ⟨S4096x32x10x10, .f32⟩
  | 55 => ⟨S4096x32x10x10, .f32⟩
  | 56 => ⟨S4096x16x10x10, .f32⟩
  | 57 => ⟨S32x16x1x1, .f32⟩
  | 58 => ⟨S32x16, .f32⟩
  | 59 => ⟨S32x4096x10x10, .f32⟩
  | 60 => ⟨S4096x32x10x10, .f32⟩
  | 61 => ⟨S4096x32x10x10, .f32⟩
  | 62 => ⟨S4096x16x10x10, .f32⟩
  | 63 => ⟨S32x16x1x1, .f32⟩
  | 64 => ⟨S32x16, .f32⟩
  | 65 => ⟨S32x4096x10x10, .f32⟩
  | 66 => ⟨S4096x32x10x10, .f32⟩
  | 67 => ⟨S4096x32x10x10, .f32⟩
  | 68 => ⟨S4096x16x10x10, .f32⟩
  | 69 => ⟨S32x16x1x1, .f32⟩
  | 70 => ⟨S32x16, .f32⟩
  | 71 => ⟨S32x4096x10x10, .f32⟩
  | 72 => ⟨S4096x32x10x10, .f32⟩
  | 73 => ⟨S4096x32x10x10, .f32⟩
  | 74 => ⟨S4096x16x10x10, .f32⟩
  | 75 => ⟨S32x16x1x1, .f32⟩
  | 76 => ⟨S32x16, .f32⟩
  | 77 => ⟨S32x4096x10x10, .f32⟩
  | 78 => ⟨S4096x32x10x10, .f32⟩
  | 79 => ⟨S4096x32x10x10, .f32⟩
  | 80 => ⟨S4096x16x10x10, .f32⟩
  | 81 => ⟨S32x16x1x1, .f32⟩
  | 82 => ⟨S32x16, .f32⟩
  | 83 => ⟨S32x4096x10x10, .f32⟩
  | 84 => ⟨S4096x32x10x10, .f32⟩
  | 85 => ⟨S4096x32x10x10, .f32⟩
  | 86 => ⟨S4096x16x10x10, .f32⟩
  | 87 => ⟨S32x16x1x1, .f32⟩
  | 88 => ⟨S32x16, .f32⟩
  | 89 => ⟨S32x4096x10x10, .f32⟩
  | 90 => ⟨S4096x32x10x10, .f32⟩
  | 91 => ⟨S4096x32x10x10, .f32⟩
  | 92 => ⟨S4096x16x10x10, .f32⟩
  | 93 => ⟨S32x16x1x1, .f32⟩
  | 94 => ⟨S32x16, .f32⟩
  | 95 => ⟨S32x4096x10x10, .f32⟩
  | 96 => ⟨S4096x32x10x10, .f32⟩
  | 97 => ⟨S4096x32x10x10, .f32⟩
  | 98 => ⟨S4096x16x10x10, .f32⟩
  | 99 => ⟨S32x16x1x1, .f32⟩
  | 100 => ⟨S32x16, .f32⟩
  | 101 => ⟨S32x4096x10x10, .f32⟩
  | 102 => ⟨S4096x32x10x10, .f32⟩
  | 103 => ⟨S4096x32x10x10, .f32⟩
  | 104 => ⟨S1x32x1x1, .f32⟩
  | 105 => ⟨S4096x32x10x10, .f32⟩
  | 106 => ⟨S4096x32x10x10, .f32⟩
  | 107 => ⟨S4096x32x10x10, .f32⟩
  | 108 => ⟨S4096x3200, .f32⟩
  | 109 => ⟨S4096x128, .f32⟩
  | 110 => ⟨S1x128, .f32⟩
  | 111 => ⟨S4096x128, .f32⟩
  | 112 => ⟨S4096x128, .f32⟩
  | 113 => ⟨S4096x128, .f32⟩
  | 114 => ⟨S4096x128, .f32⟩
  | 115 => ⟨S1x128, .f32⟩
  | 116 => ⟨S4096x128, .f32⟩
  | 117 => ⟨S4096x128, .f32⟩
  | 118 => ⟨S4096x128, .f32⟩
  | 119 => ⟨S4096x128, .f32⟩
  | 120 => ⟨S_, .f32⟩
  | 121 => ⟨S4096x128, .f32⟩
  | 122 => ⟨S4096x128, .f32⟩
  | 123 => ⟨S_, .f32⟩
  | 124 => ⟨S4096x128, .f32⟩
  | 125 => ⟨S4096x128, .f32⟩
  | 126 => ⟨S4096x128, .f32⟩
  | 127 => ⟨S4096x5, .f32⟩
  | _ => ⟨S4096x1x28x28, .f32⟩

abbrev hbmTy0_2 (i : Nat) : BufTy := match i % 128 with
  | 0 => ⟨S1x5, .f32⟩
  | 1 => ⟨S4096x5, .f32⟩
  | 2 => ⟨S4096x5, .f32⟩
  | 3 => ⟨S4096x3, .f32⟩
  | 4 => ⟨S4096x3, .i32⟩
  | 5 => ⟨S_, .f32⟩
  | 6 => ⟨S4096, .f32⟩
  | 7 => ⟨S_, .f32⟩
  | 8 => ⟨S4096, .f32⟩
  | 9 => ⟨S4096, .f32⟩
  | 10 => ⟨S4096x1, .f32⟩
  | 11 => ⟨S4096x3, .f32⟩
  | 12 => ⟨S4096x3, .f32⟩
  | 13 => ⟨S4096x3, .f32⟩
  | 14 => ⟨S_, .f32⟩
  | 15 => ⟨S4096, .f32⟩
  | 16 => ⟨S4096x1, .f32⟩
  | 17 => ⟨S4096x3, .f32⟩
  | 18 => ⟨S4096x3, .f32⟩
  | 19 => ⟨S4096x5x128, .f32⟩
  | 20 => ⟨S1x5x128, .f32⟩
  | 21 => ⟨S4096x5x128, .f32⟩
  | 22 => ⟨S4096x5x128, .f32⟩
  | 23 => ⟨S4096x5x128, .f32⟩
  | 24 => ⟨S5x128x4096, .f32⟩
  | 25 => ⟨S4096x5x128, .f32⟩
  | 26 => ⟨S1x5x128, .f32⟩
  | 27 => ⟨S4096x5x128, .f32⟩
  | 28 => ⟨S4096x5x128, .f32⟩
  | 29 => ⟨S4096x5x128, .f32⟩
  | 30 => ⟨S4096x3x1, .i32⟩
  | 31 => ⟨S_, .i32⟩
  | 32 => ⟨S4096x3x1, .i32⟩
  | 33 => ⟨S4096x3x1, .i1⟩
  | 34 => ⟨S_, .i32⟩
  | 35 => ⟨S4096x3x1, .i32⟩
  | 36 => ⟨S4096x3x1, .i32⟩
  | 37 => ⟨S4096x3x1, .i32⟩
  | 38 => ⟨S1, .i32⟩
  | 39 => ⟨S_, .i32⟩
  | 40 => ⟨S4096x3x1, .i32⟩
  | 41 => ⟨S4096x3x1, .i1⟩
  | 42 => ⟨S1x1x1, .i32⟩
  | 43 => ⟨S4096x3x1, .i32⟩
  | 44 => ⟨S4096x3x1, .i1⟩
  | 45 => ⟨S4096x3x1, .i1⟩
  | 46 => ⟨S_, .i1⟩
  | 47 => ⟨S4096x3, .i1⟩
  | 48 => ⟨S4096x3x128, .f32⟩
  | 49 => ⟨S4096x3x128, .i1⟩
  | 50 => ⟨S_, .f32⟩
  | 51 => ⟨S4096x3x128, .f32⟩
  | 52 => ⟨S4096x3x128, .f32⟩
  | 53 => ⟨S4096x3x1, .f32⟩
  | 54 => ⟨S4096x3x128, .f32⟩
  | 55 => ⟨S4096x3x128, .f32⟩
  | 56 => ⟨S_, .f32⟩
  | 57 => ⟨S4096x128, .f32⟩
  | 58 => ⟨S4096x10, .f32⟩
  | 59 => ⟨S1x10, .f32⟩
  | 60 => ⟨S4096x10, .f32⟩
  | 61 => ⟨S4096x10, .f32⟩
  | 62 => ⟨S_, .f32⟩
  | 63 => ⟨S4096, .f32⟩
  | 64 => ⟨S_, .f32⟩
  | 65 => ⟨S4096, .f32⟩
  | 66 => ⟨S4096, .f32⟩
  | 67 => ⟨S4096x1, .f32⟩
  | 68 => ⟨S4096x10, .f32⟩
  | 69 => ⟨S4096x10, .f32⟩
  | 70 => ⟨S4096x10, .f32⟩
  | 71 => ⟨S_, .f32⟩
  | 72 => ⟨S4096, .f32⟩
  | 73 => ⟨S4096x1, .f32⟩
  | 74 => ⟨S4096x10, .f32⟩
  | 75 => ⟨S4096x10, .f32⟩
  | _ => ⟨S4096x1x28x28, .f32⟩

abbrev hbmTy (i : Nat) : BufTy := match i / 128 with
  | 0 => hbmTy0_0 i
  | 1 => hbmTy0_1 i
  | 2 => hbmTy0_2 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_cst_0 : Ref sig .tc := ⟨.hbm, 174, rfl⟩
abbrev main_v156 : Ref sig .tc := ⟨.hbm, 175, rfl⟩
abbrev main_cst_1 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_cst_2 : Ref sig .tc := ⟨.hbm, 248, rfl⟩
abbrev main_v228 : Ref sig .tc := ⟨.hbm, 249, rfl⟩
abbrev main_v229 : Ref sig .tc := ⟨.hbm, 250, rfl⟩
abbrev main_cst_3 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_values : Ref sig .tc := ⟨.hbm, 259, rfl⟩
abbrev main_indices : Ref sig .tc := ⟨.hbm, 260, rfl⟩
abbrev main_cst_4 : Ref sig .tc := ⟨.hbm, 261, rfl⟩
abbrev main_v237 : Ref sig .tc := ⟨.hbm, 262, rfl⟩
abbrev main_cst_5 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_cst_6 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_call0_c : Ref sig .tc := ⟨.hbm, 287, rfl⟩
abbrev main_call0_v0 : Ref sig .tc := ⟨.hbm, 288, rfl⟩
abbrev main_call0_v1 : Ref sig .tc := ⟨.hbm, 289, rfl⟩
abbrev main_call0_c_0 : Ref sig .tc := ⟨.hbm, 290, rfl⟩
abbrev main_call0_v2 : Ref sig .tc := ⟨.hbm, 291, rfl⟩
abbrev main_call0_v3 : Ref sig .tc := ⟨.hbm, 292, rfl⟩
abbrev main_call0_v4 : Ref sig .tc := ⟨.hbm, 293, rfl⟩
abbrev main_call0_c_1 : Ref sig .tc := ⟨.hbm, 294, rfl⟩
abbrev main_call0_c_2 : Ref sig .tc := ⟨.hbm, 295, rfl⟩
abbrev main_call0_v5 : Ref sig .tc := ⟨.hbm, 296, rfl⟩
abbrev main_call0_v6 : Ref sig .tc := ⟨.hbm, 297, rfl⟩
abbrev main_call0_v7 : Ref sig .tc := ⟨.hbm, 298, rfl⟩
abbrev main_call0_v8 : Ref sig .tc := ⟨.hbm, 299, rfl⟩
abbrev main_call0_v9 : Ref sig .tc := ⟨.hbm, 300, rfl⟩
abbrev main_call0_v10 : Ref sig .tc := ⟨.hbm, 301, rfl⟩
abbrev main_call0_c_3 : Ref sig .tc := ⟨.hbm, 302, rfl⟩
abbrev main_call0_v11 : Ref sig .tc := ⟨.hbm, 303, rfl⟩
abbrev main_call0_v12 : Ref sig .tc := ⟨.hbm, 304, rfl⟩
abbrev main_call0_v13 : Ref sig .tc := ⟨.hbm, 305, rfl⟩
abbrev main_call0_cst : Ref sig .tc := ⟨.hbm, 306, rfl⟩
abbrev main_call0_v14 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_cst_7 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_cst_8 : Ref sig .tc := ⟨.hbm, 318, rfl⟩
abbrev main_v269 : Ref sig .tc := ⟨.hbm, 319, rfl⟩
abbrev main_cst_9 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_cst_10 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩

abbrev nD : Nat := 1
abbrev τ : Topo := Topo.v7x

variable {F : FTy → Type} [FloatOps F]
-- ==== Proof.Spec.lean ====
/-
  The network as plain mathematics over the extended reals: what both programs compute, entry by entry, in terms of the
  entries of the seventeen argument arrays. No program is named here.
-/
module

public import Idealize.ShloMosaic.PureOps.Ideal
public import Mathlib.Algebra.BigOperators.Fin

@[expose] public section

noncomputable section

namespace Cert.Proof.Net

open Idealize.ShloMosaic
open scoped BigOperators

/-- The entries of the argument arrays: the images, the two convolutions' weights and biases, the two gate layers', the
    routing layer's, the experts' two layers' and the last layer's. -/
structure Args where
  x : Fin 4096 → Fin 28 → Fin 28 → EReal
  w1 : Fin 16 → Fin 5 → Fin 5 → EReal
  b1 : Fin 16 → EReal
  w2 : Fin 32 → Fin 16 → Fin 3 → Fin 3 → EReal
  b2 : Fin 32 → EReal
  wg : Fin 3200 → Fin 128 → EReal
  bg : Fin 128 → EReal
  wv : Fin 3200 → Fin 128 → EReal
  bv : Fin 128 → EReal
  wo : Fin 128 → Fin 5 → EReal
  bo : Fin 5 → EReal
  u1 : Fin 5 → Fin 3200 → Fin 128 → EReal
  c1 : Fin 5 → Fin 128 → EReal
  u2 : Fin 5 → Fin 128 → Fin 128 → EReal
  c2 : Fin 5 → Fin 128 → EReal
  ws : Fin 128 → Fin 10 → EReal
  bs : Fin 10 → EReal

variable (A : Args)

/-- The first convolution without its bias: image `n`, channel `c`, position `(i, j)`. -/
def conv1 (n : Fin 4096) (c : Fin 16) (i j : Fin 24) : EReal :=
  ∑ di : Fin 5, ∑ dj : Fin 5, A.w1 c di dj * A.x n ⟨i.val + di.val, by omega⟩ ⟨j.val + dj.val, by omega⟩

/-- The activated first convolution. -/
def act1 (n : Fin 4096) (c : Fin 16) (i j : Fin 24) : EReal := Ideal.tanh (conv1 A n c i j + A.b1 c)

/-- The 2×2 maximum of the activated first convolution. -/
def pool (n : Fin 4096) (c : Fin 16) (i j : Fin 12) : EReal :=
  max (max (act1 A n c ⟨2 * i.val, by omega⟩ ⟨2 * j.val, by omega⟩) (act1 A n c ⟨2 * i.val, by omega⟩ ⟨2 * j.val + 1, by omega⟩))
    (max (act1 A n c ⟨2 * i.val + 1, by omega⟩ ⟨2 * j.val, by omega⟩) (act1 A n c ⟨2 * i.val + 1, by omega⟩ ⟨2 * j.val + 1, by omega⟩))

/-- The second convolution without its bias. -/
def conv2 (n : Fin 4096) (o : Fin 32) (i j : Fin 10) : EReal :=
  ∑ di : Fin 3, ∑ dj : Fin 3, ∑ c : Fin 16, A.w2 o c di dj * pool A n c ⟨i.val + di.val, by omega⟩ ⟨j.val + dj.val, by omega⟩

/-- The activated second convolution: the features of image `n`. -/
def act2 (n : Fin 4096) (o : Fin 32) (i j : Fin 10) : EReal := Ideal.tanh (conv2 A n o i j + A.b2 o)

/-- The features as one row of 3200 numbers. -/
def feat (n : Fin 4096) (k : Fin 3200) : EReal :=
  act2 A n ⟨k.val / 100, by omega⟩ ⟨k.val / 10 % 10, by omega⟩ ⟨k.val % 10, by omega⟩

/-- A linear layer over the features. -/
def lin (n : Fin 4096) (w : Fin 3200 → Fin 128 → EReal) (b : Fin 128 → EReal) (h : Fin 128) : EReal :=
  (∑ k : Fin 3200, feat A n k * w k h) + b h

/-- The gated hidden layer of the router. -/
def glu (n : Fin 4096) (h : Fin 128) : EReal :=
  Ideal.tanh (lin A n A.wg A.bg h) * Ideal.logistic (lin A n A.wv A.bv h)

/-- The router's logit of expert `e`. -/
def logit (n : Fin 4096) (e : Fin 5) : EReal := (∑ h : Fin 128, glu A n h * A.wo h e) + A.bo e

/-- The hidden layer of expert `e`. -/
def hid (n : Fin 4096) (e : Fin 5) (h : Fin 128) : EReal := Ideal.tanh (lin A n (A.u1 e) (A.c1 e) h)

/-- The output of expert `e`. -/
def expert (n : Fin 4096) (e : Fin 5) (h : Fin 128) : EReal :=
  Ideal.tanh ((∑ k : Fin 128, hid A n e k * A.u2 e k h) + A.c2 e h)

/-- Expert `f` goes before expert `e`: its logit is greater, or equal and its index lower. -/
def Before (L : Fin 5 → EReal) (f e : Fin 5) : Prop := L e < L f ∨ (L f = L e ∧ f < e)

instance (L : Fin 5 → EReal) (f e : Fin 5) : Decidable (Before L f e) := Classical.dec _

/-- The number of experts before `e`. -/
def rank (L : Fin 5 → EReal) (e : Fin 5) : ℕ := ∑ f : Fin 5, if Before L f e then 1 else 0

/-- The greatest of the five logits. -/
def top (L : Fin 5 → EReal) : EReal := max (max (max (max (L 0) (L 1)) (L 2)) (L 3)) (L 4)

/-- The unnormalized gate of expert `e`: zero unless at most two experts are before it. -/
def gate (L : Fin 5 → EReal) (e : Fin 5) : EReal := if rank L e < 3 then Ideal.exp (L e - top L) else 0

/-- The experts' outputs `O` mixed by the normalized gates of the logits `L`. -/
def mix (L O : Fin 5 → EReal) : EReal := ∑ e : Fin 5, Ideal.div (gate L e) (∑ f : Fin 5, gate L f) * O e

/-- The last layer before its softmax. -/
def last (n : Fin 4096) (j : Fin 10) : EReal :=
  (∑ h : Fin 128, mix (logit A n) (fun e => expert A n e h) * A.ws h j) + A.bs j

/-- The greatest entry of a row of ten, as a fold from below. -/
def rowMax (z : Fin 10 → EReal) : EReal := Finset.univ.fold max ⊥ z

/-- The softmax of a row of ten. -/
def softmax (z : Fin 10 → EReal) (j : Fin 10) : EReal :=
  Ideal.div (Ideal.exp (z j - rowMax z)) (∑ k : Fin 10, Ideal.exp (z k - rowMax z))

/-- The network's result for image `n`, class `j`. -/
def out (n : Fin 4096) (j : Fin 10) : EReal := softmax (last A n) j

end Cert.Proof.Net

end
-- ==== Proof.Sums.lean ====
/-
  Finite sums over the extended reals: a sum cut into rows, a sum against a shifted diagonal, and the two convolutions as
  sums of a row of the image against a banded matrix.
-/
module

public import proofs.«01_k».proof.Proof.Spec
public import Mathlib.Analysis.SpecialFunctions.Artanh

@[expose] public section

noncomputable section

namespace Cert.Proof.Net

open Idealize.ShloMosaic
open scoped BigOperators

/-- The 32-bit word of negative infinity reads as the least extended real. -/
theorem ofBits_bottom : Ideal.ofBits .f32 0xFF800000#32 = ⊥ := by simp [Ideal.ofBits, Ideal.ieee]

/-- A sum over `a * b` indices, row by row. -/
theorem sum_rows {M : Type} [AddCommMonoid M] {N : ℕ} (a b : ℕ) (h : N = a * b) (f : Fin N → M) :
    ∑ k : Fin N, f k = ∑ i : Fin a, ∑ j : Fin b, f ⟨b * i.val + j.val, by
      have := i.isLt; have := j.isLt; subst h; nlinarith⟩ := by
  subst h
  rw [← Equiv.sum_comp finProdFinEquiv f, Fintype.sum_prod_type]
  refine Finset.sum_congr rfl fun i _ => Finset.sum_congr rfl fun j _ => congrArg f (Fin.ext ?_)
  simp [finProdFinEquiv, Nat.add_comm]

/-- The matrix entry of a band: `w d` on the diagonal shifted by `d`. -/
def band {K : ℕ} (w : Fin K → EReal) (q j : ℕ) : EReal := ∑ d : Fin K, w d * (if q = j + d.val then 1 else 0)

/-- A row against a column of a band is the window of the row at that column. -/
theorem band_sum {N K : ℕ} (f : Fin N → EReal) (w : Fin K → EReal) (j : ℕ) (h : j + K ≤ N) :
    ∑ q : Fin N, f q * band w q.val j = ∑ d : Fin K, w d * f ⟨j + d.val, by omega⟩ := by
  have h1 : ∀ q : Fin N, band w q.val j = if h : j ≤ q.val ∧ q.val < j + K then w ⟨q.val - j, by omega⟩ else 0 := by
    intro q
    unfold band
    split_ifs with hq
    · rw [Finset.sum_eq_single (⟨q.val - j, by omega⟩ : Fin K)]
      · rw [if_pos (by simp; omega), mul_one]
      · intro d _ hd
        rw [if_neg (fun hc => hd (Fin.ext (by simp; omega))), mul_zero]
      · intro hc
        exact absurd (Finset.mem_univ _) hc
    · exact Finset.sum_eq_zero fun d _ => by rw [if_neg (by omega), mul_zero]
  symm
  refine Finset.sum_of_injOn (fun d : Fin K => (⟨j + d.val, by omega⟩ : Fin N)) ?_ (fun _ _ => Finset.mem_coe.2 (Finset.mem_univ _)) ?_ ?_
  · intro a _ b _ hab
    exact Fin.ext (by have := congrArg Fin.val hab; simp at this; exact this)
  · intro q _ hq
    rw [h1, dif_neg, mul_zero]
    intro hc
    exact hq ⟨⟨q.val - j, by omega⟩, Finset.mem_coe.2 (Finset.mem_univ _), Fin.ext (by simp; omega)⟩
  · intro d _
    rw [h1, dif_pos ⟨by simp, by simp⟩, mul_comm]
    congr 2
    exact Fin.ext (by simp)

/-- The banded matrix of the first convolution: row `(i, q)` of six image rows, column position `j` and channel `c`, for
    the output row `s` of the two that six image rows give. -/
def band1 (A : Args) (s : Fin 2) (i : Fin 6) (q : Fin 28) (j : Fin 24) (c : Fin 16) : EReal :=
  if h : s.val ≤ i.val ∧ i.val < s.val + 5 then band (A.w1 c ⟨i.val - s.val, by omega⟩) q.val j.val else 0

/-- Six image rows against the banded matrix are the first convolution at row `2 t + s`. -/
theorem conv1_sum (A : Args) (n : Fin 4096) (t : Fin 12) (s : Fin 2) (j : Fin 24) (c : Fin 16) :
    ∑ i : Fin 6, ∑ q : Fin 28, A.x n ⟨2 * t.val + i.val, by omega⟩ q * band1 A s i q j c
      = conv1 A n c ⟨2 * t.val + s.val, by omega⟩ j := by
  have hb : ∀ i : Fin 6, ∑ q : Fin 28, A.x n ⟨2 * t.val + i.val, by omega⟩ q * band1 A s i q j c
      = if h : s.val ≤ i.val ∧ i.val < s.val + 5 then
          ∑ d : Fin 5, A.w1 c ⟨i.val - s.val, by omega⟩ d * A.x n ⟨2 * t.val + i.val, by omega⟩ ⟨j.val + d.val, by omega⟩ else 0 := by
    intro i
    split_ifs with h
    · rw [← band_sum (A.x n ⟨2 * t.val + i.val, by omega⟩) (A.w1 c ⟨i.val - s.val, by omega⟩) j.val (by omega)]
      exact Finset.sum_congr rfl fun q _ => by rw [band1, dif_pos h]
    · exact Finset.sum_eq_zero fun q _ => by rw [band1, dif_neg h, mul_zero]
  simp only [hb]
  unfold conv1
  fin_cases s
  · rw [Fin.sum_univ_castSucc (n := 5), dif_neg (by simp), add_zero]
    refine Finset.sum_congr rfl fun i _ => ?_
    rw [dif_pos ⟨by simp, by simp⟩]
    rfl
  · rw [Fin.sum_univ_succ (n := 5), dif_neg (by simp), zero_add]
    refine Finset.sum_congr rfl fun i _ => ?_
    rw [dif_pos ⟨by simp, by simp; omega⟩]
    refine Finset.sum_congr rfl fun d _ => ?_
    congr 2
    · exact Fin.ext (by simp; omega)

/-- The banded matrix of the second convolution: row `(d, q, p, c)` of three pooled rows, where every second group of
    lanes (`p = 1`) has weight zero, column position `j` and channel `o`. -/
def band2 (A : Args) (d : Fin 3) (q : Fin 12) (p : Fin 2) (c : Fin 16) (j : Fin 10) (o : Fin 32) : EReal :=
  if p = 0 then band (fun e : Fin 3 => A.w2 o c d e) q.val j.val else 0

/-- Three pooled rows, each lane group followed by a group of anything, against the banded matrix are the second
    convolution at row `i`. -/
theorem conv2_sum (A : Args) (n : Fin 4096) (i j : Fin 10) (o : Fin 32) (f : Fin 3 → Fin 12 → Fin 2 → Fin 16 → EReal)
    (hf : ∀ d q c, f d q 0 c = pool A n c ⟨i.val + d.val, by omega⟩ q) :
    ∑ d : Fin 3, ∑ q : Fin 12, ∑ p : Fin 2, ∑ c : Fin 16, f d q p c * band2 A d q p c j o = conv2 A n o i j := by
  unfold conv2
  refine Finset.sum_congr rfl fun d _ => ?_
  have h0 : ∀ q : Fin 12, ∑ p : Fin 2, ∑ c : Fin 16, f d q p c * band2 A d q p c j o
      = ∑ c : Fin 16, pool A n c ⟨i.val + d.val, by omega⟩ q * band (fun e : Fin 3 => A.w2 o c d e) q.val j.val := by
    intro q
    rw [Fin.sum_univ_two]
    have hz : ∑ c : Fin 16, f d q 1 c * band2 A d q 1 c j o = 0 :=
      Finset.sum_eq_zero fun c _ => by rw [band2, if_neg (by decide), mul_zero]
    rw [hz, add_zero]
    exact Finset.sum_congr rfl fun c _ => by rw [hf, band2, if_pos rfl]
  simp only [h0]
  rw [Finset.sum_comm]
  rw [Finset.sum_comm (s := (Finset.univ : Finset (Fin 3)))]
  refine Finset.sum_congr rfl fun c _ => ?_
  exact band_sum (fun q => pool A n c ⟨i.val + d.val, by omega⟩ q) (fun e => A.w2 o c d e) j.val (by omega)

/-- A sum over the features is a sum over their rows, columns and channels. -/
theorem feat_sum (A : Args) (n : Fin 4096) (w : Fin 3200 → EReal) :
    ∑ k : Fin 3200, feat A n k * w k
      = ∑ i : Fin 10, ∑ j : Fin 10, ∑ o : Fin 32, act2 A n o i j * w ⟨100 * o.val + 10 * i.val + j.val, by omega⟩ := by
  rw [sum_rows 32 100 rfl]
  have h1 : ∀ o : Fin 32, ∑ u : Fin 100, feat A n ⟨100 * o.val + u.val, by omega⟩ * w ⟨100 * o.val + u.val, by omega⟩
      = ∑ i : Fin 10, ∑ j : Fin 10, act2 A n o i j * w ⟨100 * o.val + 10 * i.val + j.val, by omega⟩ := by
    intro o
    rw [sum_rows 10 10 rfl]
    refine Finset.sum_congr rfl fun i _ => Finset.sum_congr rfl fun j _ => ?_
    have e : (⟨100 * o.val + (10 * i.val + j.val), by omega⟩ : Fin 3200) = ⟨100 * o.val + 10 * i.val + j.val, by omega⟩ :=
      Fin.ext (by simp; omega)
    simp only [e]
    congr 1
    unfold feat
    congr 1 <;> exact Fin.ext (by simp; omega)
  simp only [h1]
  rw [Finset.sum_comm]
  refine Finset.sum_congr rfl fun i _ => ?_
  rw [Finset.sum_comm]

/-- The hyperbolic tangent of a real number lies strictly between -1 and 1. -/
theorem tanh_mem (x : ℝ) : Real.tanh x ∈ Set.Ioo (-1 : ℝ) 1 := Real.tanh_bijOn.mapsTo (Set.mem_univ x)

/-- The hyperbolic tangent does not decrease. -/
theorem tanh_mono : Monotone Ideal.tanh := by
  have h1 : ((-1 : ℝ) : EReal) = -1 := by simp
  intro x y h
  induction x using EReal.rec with
  | bot =>
    induction y using EReal.rec with
    | bot => exact le_refl _
    | top => show (-1 : EReal) ≤ 1; rw [← h1, ← EReal.coe_one, EReal.coe_le_coe_iff]; norm_num
    | coe b => show (-1 : EReal) ≤ (Real.tanh b : ℝ); rw [← h1, EReal.coe_le_coe_iff]; exact (tanh_mem b).1.le
  | top =>
    rw [top_le_iff] at h
    rw [h]
  | coe a =>
    induction y using EReal.rec with
    | bot => exact absurd h (by simp)
    | top => show ((Real.tanh a : ℝ) : EReal) ≤ 1; rw [← EReal.coe_one, EReal.coe_le_coe_iff]; exact (tanh_mem a).2.le
    | coe b =>
      show ((Real.tanh a : ℝ) : EReal) ≤ (Real.tanh b : ℝ)
      rw [EReal.coe_le_coe_iff] at h ⊢
      by_contra hc
      have := (Real.artanh_lt_artanh_iff (tanh_mem b) (tanh_mem a)).2 (not_le.1 hc)
      rw [Real.artanh_tanh, Real.artanh_tanh] at this
      exact absurd this (not_lt.2 h)

/-- A maximum of four under the activation is the maximum of the four activated. -/
theorem pool_of_max (a b c d e : EReal) :
    Ideal.tanh (max (max a b) (max c d) + e)
      = max (max (Ideal.tanh (a + e)) (Ideal.tanh (c + e))) (max (Ideal.tanh (b + e)) (Ideal.tanh (d + e))) := by
  have ha : Monotone fun x : EReal => Ideal.tanh (x + e) := fun x y h => tanh_mono (by gcongr)
  have := ha.map_max (a := max a b) (b := max c d)
  rw [this, ha.map_max, ha.map_max, max_max_max_comm]

end Cert.Proof.Net

end
-- ==== Proof.Finite.lean ====
/-
  What the precondition says: the entries of the router's last weight matrix and bias are real numbers.
-/
module

public import proofs.«01_k».proof.Pre_finite_router
public import proofs.«01_k».proof.Proof.Sums
public import Idealize.ShloMosaic.Lib.Pointwise

@[expose] public section

noncomputable section

namespace Cert.Proof.Finite

open Idealize.ShloMosaic Cert.Pre_finite_router

/-- The shapes that the precondition broadcasts between fit. -/
theorem facts : Cert.Pre_finite_router.Facts where
  bcast_S_S128x5 := by decide
  bcast_S_S5 := by decide

/-- An extended real whose absolute value is below the infinity of the format is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  rw [ht] at h
  have hl : max x (-x) < ⊤ := by
    by_contra hc
    have : BitVec.ofBool (decide (max x (-x) < ⊤)) = 1#1 := h
    rw [decide_eq_false hc] at this
    exact absurd this (by decide)
  induction x with
  | bot => exact absurd hl (by simp)
  | coe r => exact ⟨r, rfl⟩
  | top => exact absurd hl (by simp)

variable [hP : Cert.Pre_finite_router.Facts]

/-- The weight matrix is finite. -/
theorem weights_real (W : S128x5.Idx → EReal) (i : S128x5.Idx)
    (h : cmpf (F := Ideal) (φ := .f32) .olt (Host.absf W) (broadcastInDim S128x5 ![] Facts.bcast_S_S128x5 (constant (F := Ideal) S_ .f32 0x7F800000#32))
      = fun _ => 1#1) : ∃ r : ℝ, W i = r :=
  real_of_abs_lt _ (congrFun h i)

/-- The bias is finite. -/
theorem bias_real (b : S5.Idx → EReal) (i : S5.Idx)
    (h : cmpf (F := Ideal) (φ := .f32) .olt (Host.absf b) (broadcastInDim S5 ![] Facts.bcast_S_S5 (constant (F := Ideal) S_ .f32 0x7F800000#32))
      = fun _ => 1#1) : ∃ r : ℝ, b i = r :=
  real_of_abs_lt _ (congrFun h i)

end Cert.Proof.Finite

end
-- ==== Proof.KernelWindows.lean ====
/-
  What the kernel's windows show of the arrays they stand on: the weight windows their whole arrays at every grid point, the
  image window and the result window the 256 rows of the point.
-/
module

public import proofs.«01_k».proof.Proof.Gen.KernelIdeal.Value
public import Idealize.ShloMosaic.Lib.Pipeline.ValueKit

@[expose] public section

set_option maxRecDepth 16384

noncomputable section

namespace Cert.Proof.KernelWindows

open Idealize.ShloMosaic Idealize.ShloMosaic.TcCoe Cert.KernelIdeal Cert.KernelIdeal.Gen

variable (m : (ℓ : Loc nD τ sig) → Buf (Elt Ideal) ℓ) (c : Dev nD)

/-- There are sixteen grid points. -/
theorem points (t : Fin cfg0.N) : t.val < 16 := t.isLt

/-- The row of the batch that row `r` of grid point `t` is. -/
def row (t : Fin cfg0.N) (r : Fin 256) : Fin 4096 := ⟨256 * t.val + r.val, by have := points t; omega⟩

/-- The image window moves down by one block of rows a point. -/
theorem index0 : ∀ t : Fin cfg0.N, win0_0.index t = ![t.val, 0] := (by decide +kernel : ∀ t : Fin grid0.N, _)

/-- The result window moves down by one block of rows a point. -/
theorem index15 : ∀ t : Fin cfg0.N, win0_15.index t = ![t.val, 0] := (by decide +kernel : ∀ t : Fin grid0.N, _)

/-- Where the image window's elements lie in the array of images. -/
theorem emb0 (t : Fin cfg0.N) (r : Fin 256) (k : Fin 784) :
    ((cfg0.win 0).blk t).view.emb (ix2 r k : S256x784.Idx) = (ix2 (row t r) k : S4096x784.Idx) := by
  funext a
  refine Fin.ext ?_
  blk_simp [index0]
  fin_cases a <;> simp [index0, row] <;> omega

/-- Where the result window's elements lie in the result. -/
theorem emb15 (t : Fin cfg0.N) (r : Fin 256) (j : Fin 10) :
    ((cfg0.win 15).blk t).view.emb (ix2 r j : S256x10.Idx) = (ix2 (row t r) j : S4096x10.Idx) := by
  funext a
  refine Fin.ext ?_
  blk_simp [index15]
  fin_cases a <;> simp [index15, row] <;> omega

/-- The image window read off any array of its shape. -/
theorem read0 (t : Fin cfg0.N) (X : S4096x784.Idx → EReal) :
    (((cfg0.win 0).blk t).view.read (Elt Ideal) X : S256x784.Idx → EReal)
      = fun y : S256x784.Idx => X (ix2 (row t (y 0)) (y 1)) := by
  funext y
  exact congrArg X ((congrArg _ (eq_ix2 y)).trans (emb0 t (y 0) (y 1)))

/-- The image window holds the rows of its point. -/
theorem block0 (t : Fin cfg0.N) : (iblk m c 0 t : S256x784.Idx → EReal)
    = fun y : S256x784.Idx => (V m c main_v0 : S4096x784.Idx → EReal) (ix2 (row t (y 0)) (y 1)) :=
  read0 t (V m c main_v0)

/-- Window 1 stays on its only block. -/
theorem index1 : ∀ t : Fin cfg0.N, win0_1.index t = ![0, 0] := (by decide +kernel : ∀ t : Fin grid0.N, _)

/-- Window 1 read off any array of its shape is that array. -/
theorem read1 (t : Fin cfg0.N) (X : S168x768.Idx → EReal) :
    (((cfg0.win 1).blk t).view.read (Elt Ideal) X : S168x768.Idx → EReal) = X := by
  funext y
  refine congrArg X (funext fun a => Fin.ext ?_)
  blk_simp [index1]
  fin_cases a <;> simp [index1]

/-- Window 1 holds its whole array. -/
theorem block1 (t : Fin cfg0.N) : (iblk m c 1 t : S168x768.Idx → EReal) = (V m c main_v19 : S168x768.Idx → EReal) :=
  read1 t (V m c main_v19)

/-- Window 2 stays on its only block. -/
theorem index2 : ∀ t : Fin cfg0.N, win0_2.index t = ![0, 0] := (by decide +kernel : ∀ t : Fin grid0.N, _)

/-- Window 2 read off any array of its shape is that array. -/
theorem read2 (t : Fin cfg0.N) (X : S1x384.Idx → EReal) :
    (((cfg0.win 2).blk t).view.read (Elt Ideal) X : S1x384.Idx → EReal) = X := by
  funext y
  refine congrArg X (funext fun a => Fin.ext ?_)
  blk_simp [index2]
  fin_cases a <;> simp [index2]

/-- Window 2 holds its whole array. -/
theorem block2 (t : Fin cfg0.N) : (iblk m c 2 t : S1x384.Idx → EReal) = (V m c main_v24 : S1x384.Idx → EReal) :=
  read2 t (V m c main_v24)

/-- Window 3 stays on its only block. -/
theorem index3 : ∀ t : Fin cfg0.N, win0_3.index t = ![0, 0] := (by decide +kernel : ∀ t : Fin grid0.N, _)

/-- Window 3 read off any array of its shape is that array. -/
theorem read3 (t : Fin cfg0.N) (X : S1152x320.Idx → EReal) :
    (((cfg0.win 3).blk t).view.read (Elt Ideal) X : S1152x320.Idx → EReal) = X := by
  funext y
  refine congrArg X (funext fun a => Fin.ext ?_)
  blk_simp [index3]
  fin_cases a <;> simp [index3]

/-- Window 3 holds its whole array. -/
theorem block3 (t : Fin cfg0.N) : (iblk m c 3 t : S1152x320.Idx → EReal) = (V m c main_v36 : S1152x320.Idx → EReal) :=
  read3 t (V m c main_v36)

/-- Window 4 stays on its only block. -/
theorem index4 : ∀ t : Fin cfg0.N, win0_4.index t = ![0, 0] := (by decide +kernel : ∀ t : Fin grid0.N, _)

/-- Window 4 read off any array of its shape is that array. -/
theorem read4 (t : Fin cfg0.N) (X : S1x320.Idx → EReal) :
    (((cfg0.win 4).blk t).view.read (Elt Ideal) X : S1x320.Idx → EReal) = X := by
  funext y
  refine congrArg X (funext fun a => Fin.ext ?_)
  blk_simp [index4]
  fin_cases a <;> simp [index4]

/-- Window 4 holds its whole array. -/
theorem block4 (t : Fin cfg0.N) : (iblk m c 4 t : S1x320.Idx → EReal) = (V m c main_v41 : S1x320.Idx → EReal) :=
  read4 t (V m c main_v41)

/-- Window 5 stays on its only block. -/
theorem index5 : ∀ t : Fin cfg0.N, win0_5.index t = ![0, 0, 0] := (by decide +kernel : ∀ t : Fin grid0.N, _)

/-- Window 5 read off any array of its shape is that array. -/
theorem read5 (t : Fin cfg0.N) (X : S10x320x256.Idx → EReal) :
    (((cfg0.win 5).blk t).view.read (Elt Ideal) X : S10x320x256.Idx → EReal) = X := by
  funext y
  refine congrArg X (funext fun a => Fin.ext ?_)
  blk_simp [index5]
  fin_cases a <;> simp [index5]

/-- Window 5 holds its whole array. -/
theorem block5 (t : Fin cfg0.N) : (iblk m c 5 t : S10x320x256.Idx → EReal) = (V m c main_v48 : S10x320x256.Idx → EReal) :=
  read5 t (V m c main_v48)

/-- Window 6 stays on its only block. -/
theorem index6 : ∀ t : Fin cfg0.N, win0_6.index t = ![0, 0] := (by decide +kernel : ∀ t : Fin grid0.N, _)

/-- Window 6 read off any array of its shape is that array. -/
theorem read6 (t : Fin cfg0.N) (X : S1x256.Idx → EReal) :
    (((cfg0.win 6).blk t).view.read (Elt Ideal) X : S1x256.Idx → EReal) = X := by
  funext y
  refine congrArg X (funext fun a => Fin.ext ?_)
  blk_simp [index6]
  fin_cases a <;> simp [index6]

/-- Window 6 holds its whole array. -/
theorem block6 (t : Fin cfg0.N) : (iblk m c 6 t : S1x256.Idx → EReal) = (V m c main_v50 : S1x256.Idx → EReal) :=
  read6 t (V m c main_v50)

/-- Window 7 stays on its only block. -/
theorem index7 : ∀ t : Fin cfg0.N, win0_7.index t = ![0, 0] := (by decide +kernel : ∀ t : Fin grid0.N, _)

/-- Window 7 read off any array of its shape is that array. -/
theorem read7 (t : Fin cfg0.N) (X : S128x5.Idx → EReal) :
    (((cfg0.win 7).blk t).view.read (Elt Ideal) X : S128x5.Idx → EReal) = X := by
  funext y
  refine congrArg X (funext fun a => Fin.ext ?_)
  blk_simp [index7]
  fin_cases a <;> simp [index7]

/-- Window 7 holds its whole array. -/
theorem block7 (t : Fin cfg0.N) : (iblk m c 7 t : S128x5.Idx → EReal) = (V m c main_arg9 : S128x5.Idx → EReal) :=
  read7 t (V m c main_arg9)

/-- Window 8 stays on its only block. -/
theorem index8 : ∀ t : Fin cfg0.N, win0_8.index t = ![0, 0] := (by decide +kernel : ∀ t : Fin grid0.N, _)

/-- Window 8 read off any array of its shape is that array. -/
theorem read8 (t : Fin cfg0.N) (X : S1x5.Idx → EReal) :
    (((cfg0.win 8).blk t).view.read (Elt Ideal) X : S1x5.Idx → EReal) = X := by
  funext y
  refine congrArg X (funext fun a => Fin.ext ?_)
  blk_simp [index8]
  fin_cases a <;> simp [index8]

/-- Window 8 holds its whole array. -/
theorem block8 (t : Fin cfg0.N) : (iblk m c 8 t : S1x5.Idx → EReal) = (V m c main_v85 : S1x5.Idx → EReal) :=
  read8 t (V m c main_v85)

/-- Window 9 stays on its only block. -/
theorem index9 : ∀ t : Fin cfg0.N, win0_9.index t = ![0, 0, 0] := (by decide +kernel : ∀ t : Fin grid0.N, _)

/-- Window 9 read off any array of its shape is that array. -/
theorem read9 (t : Fin cfg0.N) (X : S10x320x640.Idx → EReal) :
    (((cfg0.win 9).blk t).view.read (Elt Ideal) X : S10x320x640.Idx → EReal) = X := by
  funext y
  refine congrArg X (funext fun a => Fin.ext ?_)
  blk_simp [index9]
  fin_cases a <;> simp [index9]

/-- Window 9 holds its whole array. -/
theorem block9 (t : Fin cfg0.N) : (iblk m c 9 t : S10x320x640.Idx → EReal) = (V m c main_v83 : S10x320x640.Idx → EReal) :=
  read9 t (V m c main_v83)

/-- Window 10 stays on its only block. -/
theorem index10 : ∀ t : Fin cfg0.N, win0_10.index t = ![0, 0] := (by decide +kernel : ∀ t : Fin grid0.N, _)

/-- Window 10 read off any array of its shape is that array. -/
theorem read10 (t : Fin cfg0.N) (X : S1x640.Idx → EReal) :
    (((cfg0.win 10).blk t).view.read (Elt Ideal) X : S1x640.Idx → EReal) = X := by
  funext y
  refine congrArg X (funext fun a => Fin.ext ?_)
  blk_simp [index10]
  fin_cases a <;> simp [index10]

/-- Window 10 holds its whole array. -/
theorem block10 (t : Fin cfg0.N) : (iblk m c 10 t : S1x640.Idx → EReal) = (V m c main_v84 : S1x640.Idx → EReal) :=
  read10 t (V m c main_v84)

/-- Window 11 stays on its only block. -/
theorem index11 : ∀ t : Fin cfg0.N, win0_11.index t = ![0, 0, 0] := (by decide +kernel : ∀ t : Fin grid0.N, _)

/-- Window 11 read off any array of its shape is that array. -/
theorem read11 (t : Fin cfg0.N) (X : S5x128x128.Idx → EReal) :
    (((cfg0.win 11).blk t).view.read (Elt Ideal) X : S5x128x128.Idx → EReal) = X := by
  funext y
  refine congrArg X (funext fun a => Fin.ext ?_)
  blk_simp [index11]
  fin_cases a <;> simp [index11]

/-- Window 11 holds its whole array. -/
theorem block11 (t : Fin cfg0.N) : (iblk m c 11 t : S5x128x128.Idx → EReal) = (V m c main_arg13 : S5x128x128.Idx → EReal) :=
  read11 t (V m c main_arg13)

/-- Window 12 stays on its only block. -/
theorem index12 : ∀ t : Fin cfg0.N, win0_12.index t = ![0, 0, 0] := (by decide +kernel : ∀ t : Fin grid0.N, _)

/-- Window 12 read off any array of its shape is that array. -/
theorem read12 (t : Fin cfg0.N) (X : S5x1x128.Idx → EReal) :
    (((cfg0.win 12).blk t).view.read (Elt Ideal) X : S5x1x128.Idx → EReal) = X := by
  funext y
  refine congrArg X (funext fun a => Fin.ext ?_)
  blk_simp [index12]
  fin_cases a <;> simp [index12]

/-- Window 12 holds its whole array. -/
theorem block12 (t : Fin cfg0.N) : (iblk m c 12 t : S5x1x128.Idx → EReal) = (V m c main_v86 : S5x1x128.Idx → EReal) :=
  read12 t (V m c main_v86)

/-- Window 13 stays on its only block. -/
theorem index13 : ∀ t : Fin cfg0.N, win0_13.index t = ![0, 0] := (by decide +kernel : ∀ t : Fin grid0.N, _)

/-- Window 13 read off any array of its shape is that array. -/
theorem read13 (t : Fin cfg0.N) (X : S128x10.Idx → EReal) :
    (((cfg0.win 13).blk t).view.read (Elt Ideal) X : S128x10.Idx → EReal) = X := by
  funext y
  refine congrArg X (funext fun a => Fin.ext ?_)
  blk_simp [index13]
  fin_cases a <;> simp [index13]

/-- Window 13 holds its whole array. -/
theorem block13 (t : Fin cfg0.N) : (iblk m c 13 t : S128x10.Idx → EReal) = (V m c main_arg15 : S128x10.Idx → EReal) :=
  read13 t (V m c main_arg15)

/-- Window 14 stays on its only block. -/
theorem index14 : ∀ t : Fin cfg0.N, win0_14.index t = ![0, 0] := (by decide +kernel : ∀ t : Fin grid0.N, _)

/-- Window 14 read off any array of its shape is that array. -/
theorem read14 (t : Fin cfg0.N) (X : S1x10.Idx → EReal) :
    (((cfg0.win 14).blk t).view.read (Elt Ideal) X : S1x10.Idx → EReal) = X := by
  funext y
  refine congrArg X (funext fun a => Fin.ext ?_)
  blk_simp [index14]
  fin_cases a <;> simp [index14]

/-- Window 14 holds its whole array. -/
theorem block14 (t : Fin cfg0.N) : (iblk m c 14 t : S1x10.Idx → EReal) = (V m c main_v87 : S1x10.Idx → EReal) :=
  read14 t (V m c main_v87)

end Cert.Proof.KernelWindows

end
-- ==== Proof.Arrays.lean ====
/-
  The network's arguments read off seventeen arrays.
-/
module

public import proofs.«01_k».proof.Proof.Spec
public import Idealize.ShloMosaic.Lib.Pointwise

@[expose] public section

noncomputable section

namespace Cert.Proof.Net

open Idealize.ShloMosaic

/-- The entries of seventeen arrays in the shapes the programs take them. -/
def ofArrays (a0 : (⟨4, ![4096, 1, 28, 28]⟩ : Shape).Idx → EReal) (a1 : (⟨4, ![16, 1, 5, 5]⟩ : Shape).Idx → EReal)
    (a2 : (⟨1, ![16]⟩ : Shape).Idx → EReal) (a3 : (⟨4, ![32, 16, 3, 3]⟩ : Shape).Idx → EReal)
    (a4 : (⟨1, ![32]⟩ : Shape).Idx → EReal) (a5 : (⟨2, ![3200, 128]⟩ : Shape).Idx → EReal)
    (a6 : (⟨1, ![128]⟩ : Shape).Idx → EReal) (a7 : (⟨2, ![3200, 128]⟩ : Shape).Idx → EReal)
    (a8 : (⟨1, ![128]⟩ : Shape).Idx → EReal) (a9 : (⟨2, ![128, 5]⟩ : Shape).Idx → EReal)
    (a10 : (⟨1, ![5]⟩ : Shape).Idx → EReal) (a11 : (⟨3, ![5, 3200, 128]⟩ : Shape).Idx → EReal)
    (a12 : (⟨2, ![5, 128]⟩ : Shape).Idx → EReal) (a13 : (⟨3, ![5, 128, 128]⟩ : Shape).Idx → EReal)
    (a14 : (⟨2, ![5, 128]⟩ : Shape).Idx → EReal) (a15 : (⟨2, ![128, 10]⟩ : Shape).Idx → EReal)
    (a16 : (⟨1, ![10]⟩ : Shape).Idx → EReal) : Args where
  x n i j := a0 (ix4 n 0 i j)
  w1 c di dj := a1 (ix4 c 0 di dj)
  b1 c := a2 (ix1 c)
  w2 o c di dj := a3 (ix4 o c di dj)
  b2 o := a4 (ix1 o)
  wg k h := a5 (ix2 k h)
  bg h := a6 (ix1 h)
  wv k h := a7 (ix2 k h)
  bv h := a8 (ix1 h)
  wo h e := a9 (ix2 h e)
  bo e := a10 (ix1 e)
  u1 e k h := a11 (ix3 e k h)
  c1 e h := a12 (ix2 e h)
  u2 e k h := a13 (ix3 e k h)
  c2 e h := a14 (ix2 e h)
  ws h j := a15 (ix2 h j)
  bs j := a16 (ix1 j)

end Cert.Proof.Net

end
-- ==== Proof.KernelHost.lean ====
/-
  The arrays the kernel's windows stand on, as the host operations before the call leave them: the images flattened, the two
  banded matrices of the convolutions, and the weights cut and laid side by side.
-/
module

public import proofs.«01_k».proof.Proof.KernelWindows
public import proofs.«01_k».proof.Proof.Sums
public import proofs.«01_k».proof.Proof.Arrays
public import Idealize.ShloMosaic.Lib.StableHlo.ReadAt
public import Idealize.ShloMosaic.Lib.Routing.OpsSet
public import Idealize.ShloMosaic.Lib.Routing.OpsOne

@[expose] public section

set_option maxRecDepth 16384

noncomputable section

namespace Cert.Proof.KernelHost

open Idealize.ShloMosaic Idealize.ShloMosaic.TcCoe Cert.KernelIdeal Cert.KernelIdeal.Gen
open scoped BigOperators

variable (m : (ℓ : Loc nD τ sig) → Buf (Elt Ideal) ℓ) (c : Dev nD)

/-- The network's arguments as memory holds them. -/
def args : Net.Args :=
  Net.ofArrays (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12)) (m (c, Proc.tc.devRef main_arg13)) (m (c, Proc.tc.devRef main_arg14))
    (m (c, Proc.tc.devRef main_arg15)) (m (c, Proc.tc.devRef main_arg16))

/-- The 0/1 entry that the host makes by converting a comparison of words. -/
theorem selector (q j x : ℕ) (hq : q < 2 ^ 20) (hj : j < 2 ^ 20) (hx : x < 2 ^ 20) :
    FloatOps.uitofp (F := Ideal) .f32
        (IntOp.cmpi .eq (BitVec.ofNat 32 q) (IntOp.addi (BitVec.ofNat 32 j) (BitVec.ofNat 32 x)))
      = (if q = j + x then 1 else 0 : EReal) := by
  have h : (BitVec.ofNat 32 q = BitVec.ofNat 32 j + BitVec.ofNat 32 x) ↔ q = j + x := by
    rw [← BitVec.toNat_inj]; simp; omega
  have hb : (BitVec.ofNat 32 q == BitVec.ofNat 32 j + BitVec.ofNat 32 x) = decide (q = j + x) := by
    rw [Bool.eq_iff_iff]; simpa using h
  show (((BitVec.ofBool (BitVec.ofNat 32 q == BitVec.ofNat 32 j + BitVec.ofNat 32 x)).toNat : ℝ) : EReal) = _
  rw [hb]
  by_cases e : q = j + x <;> simp [e]

/-! ## The two placements -/

/-- An update of the matrix placement lands at its own coordinates past the start. -/
theorem window2 (k : S140x384.Idx) (a : Fin 2) :
    scatter_S168x768_S2_S140x384_01_n_01_0.window k a = (k a).val := by
  fin_cases a <;> rfl

/-- The start of the matrix placement is the pair of index words. -/
theorem start2 (k : S140x384.Idx) (idx : IVec S2 32) (a : Fin 2) :
    scatter_S168x768_S2_S140x384_01_n_01_0.start k idx a = (idx (ix1 a)).toInt :=
  Routing.start_pair _ rfl rfl idx k a

/-- A matrix set into a larger one at rows from `p` and columns from `q`. -/
theorem place2 (x0 : S168x768.Idx → EReal) (idx : IVec S2 32) (upd : S140x384.Idx → EReal) (p q : ℕ)
    (hp : (idx (ix1 0)).toInt = p) (hq : (idx (ix1 1)).toInt = q) (a : Fin 168) (b : Fin 768) :
    Host.scatter scatter_S168x768_S2_S140x384_01_n_01_0 (fun _ y => y) x0 idx upd (ix2 a b)
      = if h : (p ≤ a.val ∧ a.val < p + 140) ∧ (q ≤ b.val ∧ b.val < q + 384)
        then upd (ix2 ⟨a.val - p, by omega⟩ ⟨b.val - q, by omega⟩) else x0 (ix2 a b) := by
  have key : ∀ k : S140x384.Idx, scatter_S168x768_S2_S140x384_01_n_01_0.resultIdx? k idx = some (ix2 a b)
      ↔ p + (k 0).val = a.val ∧ q + (k 1).val = b.val := by
    intro k
    rw [Routing.resultIdx?_eq_some]
    have e : ∀ d : Fin 2, (scatter_S168x768_S2_S140x384_01_n_01_0.start k idx d
        + (scatter_S168x768_S2_S140x384_01_n_01_0.window k d : Int) = ((ix2 a b d).val : Int))
        ↔ ((idx (ix1 d)).toInt + ((k d).val : Int) = ((ix2 a b d).val : Int)) := fun d => by rw [start2, window2]
    refine (forall_congr' e).trans ?_
    rw [Fin.forall_fin_two, hp, hq]
    refine and_congr ?_ ?_
    · show ((p : Int) + ((k 0).val : Int) = (a.val : Int)) ↔ _
      omega
    · show ((q : Int) + ((k 1).val : Int) = (b.val : Int)) ↔ _
      omega
  by_cases h : (p ≤ a.val ∧ a.val < p + 140) ∧ (q ≤ b.val ∧ b.val < q + 384)
  · rw [dif_pos h]
    refine Routing.scatter_set_hit _ x0 idx upd (ix2 a b) _ (fun k hk => ?_) (ix2 ⟨a.val - p, by omega⟩ ⟨b.val - q, by omega⟩)
      ((key _).2 ⟨?_, ?_⟩)
    · obtain ⟨h0, h1⟩ := (key k).1 hk
      rw [eq_ix2 k]
      congr 2
      · exact Fin.ext (by show (k 0).val = a.val - p; omega)
      · exact Fin.ext (by show (k 1).val = b.val - q; omega)
    · show p + (a.val - p) = a.val
      omega
    · show q + (b.val - q) = b.val
      omega
  · rw [dif_neg h]
    refine Routing.scatter_set_miss _ x0 idx upd (ix2 a b) fun k hk => h ?_
    obtain ⟨h0, h1⟩ := (key k).1 hk
    have k0 : (k 0).val < 140 := (k 0).isLt
    have k1 : (k 1).val < 384 := (k 1).isLt
    omega

/-- Where an update of the slab placement lands. -/
theorem window6 (k : S3x12x16x10x32.Idx) (a : Fin 6) :
    scatter_S3x12x2x16x10x32_S1_S3x12x16x10x32_01234_2_2_0.window k a
      = ![(k 0).val, (k 1).val, 0, (k 2).val, (k 3).val, (k 4).val] a := by
  fin_cases a <;> rfl

/-- The slab placement starts at the index word on the inserted axis. -/
theorem start6 (k : S3x12x16x10x32.Idx) (idx : IVec S1 32) (a : Fin 6) :
    scatter_S3x12x2x16x10x32_S1_S3x12x16x10x32_01234_2_2_0.start k idx a = if a = 2 then (idx (ix1 0)).toInt else 0 := by
  fin_cases a <;> first
    | rfl
    | exact congrArg (fun q => (idx q).toInt) (funext fun b => by fin_cases b; exact Subsingleton.elim (α := Fin 1) _ _)

/-- A slab set at place 0 of the third axis. -/
theorem place6 (x0 : S3x12x2x16x10x32.Idx → EReal) (idx : IVec S1 32) (upd : S3x12x16x10x32.Idx → EReal)
    (hi : (idx (ix1 0)).toInt = 0) (d : Fin 3) (q : Fin 12) (p : Fin 2) (ch : Fin 16) (j : Fin 10) (o : Fin 32) :
    Host.scatter scatter_S3x12x2x16x10x32_S1_S3x12x16x10x32_01234_2_2_0 (fun _ y => y) x0 idx upd (ix6 d q p ch j o)
      = if p = 0 then upd (ix5 d q ch j o) else x0 (ix6 d q p ch j o) := by
  have key : ∀ k : S3x12x16x10x32.Idx,
      scatter_S3x12x2x16x10x32_S1_S3x12x16x10x32_01234_2_2_0.resultIdx? k idx = some (ix6 d q p ch j o)
      ↔ (k 0).val = d.val ∧ (k 1).val = q.val ∧ 0 = p.val ∧ (k 2).val = ch.val ∧ (k 3).val = j.val ∧ (k 4).val = o.val := by
    intro k
    rw [Routing.resultIdx?_eq_some]
    have e : ∀ a : Fin 6, (scatter_S3x12x2x16x10x32_S1_S3x12x16x10x32_01234_2_2_0.start k idx a
        + (scatter_S3x12x2x16x10x32_S1_S3x12x16x10x32_01234_2_2_0.window k a : Int) = ((ix6 d q p ch j o a).val : Int))
        ↔ ![(k 0).val, (k 1).val, 0, (k 2).val, (k 3).val, (k 4).val] a = (ix6 d q p ch j o a).val := fun a => by
      rw [start6, window6, hi, ite_self, zero_add]
      exact Int.natCast_inj
    refine (forall_congr' e).trans ⟨fun h => ⟨h 0, h 1, h 2, h 3, h 4, h 5⟩, fun h a => ?_⟩
    obtain ⟨h0, h1, h2, h3, h4, h5⟩ := h
    fin_cases a
    · exact h0
    · exact h1
    · exact h2
    · exact h3
    · exact h4
    · exact h5
  by_cases h : p = 0
  · rw [if_pos h]
    refine Routing.scatter_set_hit _ x0 idx upd (ix6 d q p ch j o) _ (fun k hk => ?_) (ix5 d q ch j o)
      ((key _).2 ⟨rfl, rfl, by rw [h]; rfl, rfl, rfl, rfl⟩)
    obtain ⟨h0, h1, -, h2, h3, h4⟩ := (key k).1 hk
    refine congrArg upd (funext fun a => Fin.ext ?_)
    fin_cases a
    · exact h0
    · exact h1
    · exact h2
    · exact h3
    · exact h4
  · rw [if_neg h]
    refine Routing.scatter_set_miss _ x0 idx upd (ix6 d q p ch j o) fun k hk => h ?_
    exact Fin.ext ((key k).1 hk).2.2.1.symm

end Cert.Proof.KernelHost

end
-- ==== Proof.KernelConv.lean ====
/-
  What one block of the kernel computes, first part: the contents its fifteen input buffers must hold, the twelve pooled
  rows of the first convolution and the ten activated rows of the second.
-/
module

public import proofs.«01_k».proof.Proof.Sums
public import proofs.«01_k».proof.Proof.Gen.KernelIdeal.Frame
public import Idealize.ShloMosaic.Lib.Pointwise

@[expose] public section

set_option maxRecDepth 16384

noncomputable section

namespace Cert.Proof.KernelBlock

open Idealize.ShloMosaic Cert.KernelIdeal Cert.KernelIdeal.Gen
open Cert.Proof.Net (Args)
open scoped BigOperators

/-- The fifteen input buffers of a block hold the entries of the network's arguments, the images being those of the rows
    `row`. -/
structure Fits (A : Args) (row : Fin 256 → Fin 4096)
    (x0 : Vec Ideal S256x784 .f32) (x1 : Vec Ideal S168x768 .f32) (x2 : Vec Ideal S1x384 .f32)
    (x3 : Vec Ideal S1152x320 .f32) (x4 : Vec Ideal S1x320 .f32) (x5 : Vec Ideal S10x320x256 .f32)
    (x6 : Vec Ideal S1x256 .f32) (x7 : Vec Ideal S128x5 .f32) (x8 : Vec Ideal S1x5 .f32)
    (x9 : Vec Ideal S10x320x640 .f32) (x10 : Vec Ideal S1x640 .f32) (x11 : Vec Ideal S5x128x128 .f32)
    (x12 : Vec Ideal S5x1x128 .f32) (x13 : Vec Ideal S128x10 .f32) (x14 : Vec Ideal S1x10 .f32) : Prop where
  image : ∀ (r : Fin 256) (i q : Fin 28), x0 (ix2 r ⟨28 * i.val + q.val, by omega⟩) = A.x (row r) i q
  band1 : ∀ (s : Fin 2) (i : Fin 6) (q : Fin 28) (j : Fin 24) (c : Fin 16),
    x1 (ix2 ⟨28 * i.val + q.val, by omega⟩ ⟨384 * s.val + (16 * j.val + c.val), by omega⟩) = Net.band1 A s i q j c
  bias1 : ∀ (j : Fin 24) (c : Fin 16), x2 (ix2 0 ⟨16 * j.val + c.val, by omega⟩) = A.b1 c
  band2 : ∀ (d : Fin 3) (q : Fin 12) (p : Fin 2) (c : Fin 16) (j : Fin 10) (o : Fin 32),
    x3 (ix2 ⟨384 * d.val + (32 * q.val + (16 * p.val + c.val)), by omega⟩ ⟨32 * j.val + o.val, by omega⟩)
      = Net.band2 A d q p c j o
  bias2 : ∀ (j : Fin 10) (o : Fin 32), x4 (ix2 0 ⟨32 * j.val + o.val, by omega⟩) = A.b2 o
  gateW : ∀ (i j : Fin 10) (o : Fin 32) (h : Fin 128),
    x5 (ix3 i ⟨32 * j.val + o.val, by omega⟩ ⟨h.val, by omega⟩) = A.wg ⟨100 * o.val + 10 * i.val + j.val, by omega⟩ h
  valueW : ∀ (i j : Fin 10) (o : Fin 32) (h : Fin 128),
    x5 (ix3 i ⟨32 * j.val + o.val, by omega⟩ ⟨128 + h.val, by omega⟩) = A.wv ⟨100 * o.val + 10 * i.val + j.val, by omega⟩ h
  gateB : ∀ h : Fin 128, x6 (ix2 0 ⟨h.val, by omega⟩) = A.bg h
  valueB : ∀ h : Fin 128, x6 (ix2 0 ⟨128 + h.val, by omega⟩) = A.bv h
  routeW : ∀ (h : Fin 128) (e : Fin 5), x7 (ix2 h e) = A.wo h e
  routeB : ∀ e : Fin 5, x8 (ix2 0 e) = A.bo e
  expertW : ∀ (e : Fin 5) (i j : Fin 10) (o : Fin 32) (h : Fin 128),
    x9 (ix3 i ⟨32 * j.val + o.val, by omega⟩ ⟨128 * e.val + h.val, by omega⟩)
      = A.u1 e ⟨100 * o.val + 10 * i.val + j.val, by omega⟩ h
  expertB : ∀ (e : Fin 5) (h : Fin 128), x10 (ix2 0 ⟨128 * e.val + h.val, by omega⟩) = A.c1 e h
  secondW : ∀ (e : Fin 5) (k h : Fin 128), x11 (ix3 e k h) = A.u2 e k h
  secondB : ∀ (e : Fin 5) (h : Fin 128), x12 (ix3 e 0 h) = A.c2 e h
  lastW : ∀ (h : Fin 128) (j : Fin 10), x13 (ix2 h j) = A.ws h j
  lastB : ∀ j : Fin 10, x14 (ix2 0 j) = A.bs j

/-! ## The first convolution -/

/-- A row of the first convolution as the kernel computes it: 168 image columns from `o` on against the two halves of the
    banded matrix, the maximum of both and of the lanes sixteen further, the bias and the activation. -/
def IsConvRow (v1 : FVec Ideal S256x784 .f32) (v3 : FVec Ideal S168x768 .f32) (v5 : FVec Ideal S1x384 .f32) (o : ℕ)
    (ho : o + 168 ≤ 784) (p : FVec Ideal S256x384 .f32) : Prop :=
  ∀ (r : Fin 256) (l : Fin 384), p (ix2 r l)
    = Ideal.tanh (max
        (max (∑ x : Fin 168, v1 (ix2 r ⟨o + x.val, by omega⟩) * v3 (ix2 x ⟨l.val, by omega⟩))
          (∑ x : Fin 168, v1 (ix2 r ⟨o + x.val, by omega⟩) * v3 (ix2 x ⟨384 + l.val, by omega⟩)))
        (max (∑ x : Fin 168, v1 (ix2 r ⟨o + x.val, by omega⟩) * v3 (ix2 x ⟨(l.val + 384 - 368) % 384, by omega⟩))
          (∑ x : Fin 168, v1 (ix2 r ⟨o + x.val, by omega⟩) * v3 (ix2 x ⟨384 + (l.val + 384 - 368) % 384, by omega⟩)))
        + v5 (ix2 0 l))

/-- A block row holds pooled row `t`: at lane `32 m + c` the pooled value of channel `c` and column `m`. -/
def IsPool (A : Args) (row : Fin 256 → Fin 4096) (t : Fin 12) (p : FVec Ideal S256x384 .f32) : Prop :=
  ∀ (r : Fin 256) (m : Fin 12) (c : Fin 16), p (ix2 r ⟨32 * m.val + c.val, by omega⟩) = Net.pool A (row r) c t m

/-- A row computed as the kernel does from fitting buffers at the columns of image row `2 t` holds pooled row `t`. -/
theorem isPool_of_conv {A : Args} {row : Fin 256 → Fin 4096} {x0 : FVec Ideal S256x784 .f32} {x1 : FVec Ideal S168x768 .f32}
    {x2 : FVec Ideal S1x384 .f32} (hx : ∀ (r : Fin 256) (i q : Fin 28), x0 (ix2 r ⟨28 * i.val + q.val, by omega⟩) = A.x (row r) i q)
    (hw : ∀ (s : Fin 2) (i : Fin 6) (q : Fin 28) (j : Fin 24) (c : Fin 16),
      x1 (ix2 ⟨28 * i.val + q.val, by omega⟩ ⟨384 * s.val + (16 * j.val + c.val), by omega⟩) = Net.band1 A s i q j c)
    (hb : ∀ (j : Fin 24) (c : Fin 16), x2 (ix2 0 ⟨16 * j.val + c.val, by omega⟩) = A.b1 c)
    (t : Fin 12) (o : ℕ) (ho : o + 168 ≤ 784) (hot : o = 56 * t.val) {p : FVec Ideal S256x384 .f32}
    (hp : IsConvRow x0 x1 x2 o ho p) : IsPool A row t p := by
  intro r m c
  have key : ∀ (s : Fin 2) (j : Fin 24) (l : ℕ) (hl : l < 768) (_ : l = 384 * s.val + (16 * j.val + c.val)),
      ∑ x : Fin 168, x0 (ix2 r ⟨o + x.val, by omega⟩) * x1 (ix2 x ⟨l, hl⟩)
        = Net.conv1 A (row r) c ⟨2 * t.val + s.val, by omega⟩ j := by
    intro s j l hl e
    subst e
    subst hot
    rw [← Net.conv1_sum A (row r) t s j c, Net.sum_rows 6 28 rfl]
    refine Finset.sum_congr rfl fun i _ => Finset.sum_congr rfl fun q _ => ?_
    rw [hw, ← hx]
    congr 3
    exact Fin.ext (by simp; omega)
  rw [hp, key 0 ⟨2 * m.val, by omega⟩ _ _ (by simp; omega), key 1 ⟨2 * m.val, by omega⟩ _ _ (by simp; omega),
    key 0 ⟨2 * m.val + 1, by omega⟩ _ _ (by simp; omega), key 1 ⟨2 * m.val + 1, by omega⟩ _ _ (by simp; omega), Net.pool_of_max]
  have e5 : x2 (ix2 0 ⟨32 * m.val + c.val, by omega⟩) = A.b1 c := by
    rw [← hb ⟨2 * m.val, by omega⟩ c]
    congr 2
    exact Fin.ext (by simp; omega)
  rw [e5]
  rfl

variable (x0 : Vec Ideal S256x784 .f32) (x1 : Vec Ideal S168x768 .f32) (x2 : Vec Ideal S1x384 .f32)
  (x3 : Vec Ideal S1152x320 .f32) (x4 : Vec Ideal S1x320 .f32) (x5 : Vec Ideal S10x320x256 .f32)
  (x6 : Vec Ideal S1x256 .f32) (x7 : Vec Ideal S128x5 .f32) (x8 : Vec Ideal S1x5 .f32)
  (x9 : Vec Ideal S10x320x640 .f32) (x10 : Vec Ideal S1x640 .f32) (x11 : Vec Ideal S5x128x128 .f32)
  (x12 : Vec Ideal S5x1x128 .f32) (x13 : Vec Ideal S128x10 .f32) (x14 : Vec Ideal S1x10 .f32)

/-- Row 0 of the first convolution. -/
theorem convRow0 : IsConvRow x0 x1 x2 0 (by decide)
    (k0_pay5 (View.ld x0 r0_0) (View.ld x1 r0_1) (View.ld x2 r0_2)) := by
  intro r l
  pointwise [k0_pay5, k0_pay57, k0_pay58, k0_pay59, k0_pay2, k0_pay3, k0_pay4]

/-- Row 1 of the first convolution. -/
theorem convRow1 : IsConvRow x0 x1 x2 56 (by decide)
    (k0_pay60 x0 x1 x2 x3 x4 x5 x6 x7 x8 x9 x10 x11 x12 x13 x14) := by
  intro r l
  pointwise [k0_pay60, k0_pay6, k0_pay57, k0_pay58, k0_pay59, k0_pay2, k0_pay3, k0_pay4]

/-- Row 2 of the first convolution. -/
theorem convRow2 : IsConvRow x0 x1 x2 112 (by decide)
    (k0_pay61 x0 x1 x2 x3 x4 x5 x6 x7 x8 x9 x10 x11 x12 x13 x14) := by
  intro r l
  pointwise [k0_pay61, k0_pay7, k0_pay57, k0_pay58, k0_pay59, k0_pay2, k0_pay3, k0_pay4]

/-- Row 3 of the first convolution. -/
theorem convRow3 : IsConvRow x0 x1 x2 168 (by decide)
    (k0_pay62 x0 x1 x2 x3 x4 x5 x6 x7 x8 x9 x10 x11 x12 x13 x14) := by
  intro r l
  pointwise [k0_pay62, k0_pay9, k0_pay8, k0_pay57, k0_pay58, k0_pay59, k0_pay2, k0_pay3, k0_pay4]

/-- Row 4 of the first convolution. -/
theorem convRow4 : IsConvRow x0 x1 x2 224 (by decide)
    (k0_pay63 x0 x1 x2 x3 x4 x5 x6 x7 x8 x9 x10 x11 x12 x13 x14) := by
  intro r l
  pointwise [k0_pay63, k0_pay10, k0_pay57, k0_pay58, k0_pay59, k0_pay2, k0_pay3, k0_pay4]

/-- Row 5 of the first convolution. -/
theorem convRow5 : IsConvRow x0 x1 x2 280 (by decide)
    (k0_pay64 x0 x1 x2 x3 x4 x5 x6 x7 x8 x9 x10 x11 x12 x13 x14) := by
  intro r l
  pointwise [k0_pay64, k0_pay11, k0_pay57, k0_pay58, k0_pay59, k0_pay2, k0_pay3, k0_pay4]

/-- Row 6 of the first convolution. -/
theorem convRow6 : IsConvRow x0 x1 x2 336 (by decide)
    (k0_pay65 x0 x1 x2 x3 x4 x5 x6 x7 x8 x9 x10 x11 x12 x13 x14) := by
  intro r l
  pointwise [k0_pay65, k0_pay12, k0_pay57, k0_pay58, k0_pay59, k0_pay2, k0_pay3, k0_pay4]

/-- Row 7 of the first convolution. -/
theorem convRow7 : IsConvRow x0 x1 x2 392 (by decide)
    (k0_pay66 x0 x1 x2 x3 x4 x5 x6 x7 x8 x9 x10 x11 x12 x13 x14) := by
  intro r l
  pointwise [k0_pay66, k0_pay13, k0_pay57, k0_pay58, k0_pay59, k0_pay2, k0_pay3, k0_pay4]

/-- Row 8 of the first convolution. -/
theorem convRow8 : IsConvRow x0 x1 x2 448 (by decide)
    (k0_pay67 x0 x1 x2 x3 x4 x5 x6 x7 x8 x9 x10 x11 x12 x13 x14) := by
  intro r l
  pointwise [k0_pay67, k0_pay15, k0_pay14, k0_pay57, k0_pay58, k0_pay59, k0_pay2, k0_pay3, k0_pay4]

/-- Row 9 of the first convolution. -/
theorem convRow9 : IsConvRow x0 x1 x2 504 (by decide)
    (k0_pay68 x0 x1 x2 x3 x4 x5 x6 x7 x8 x9 x10 x11 x12 x13 x14) := by
  intro r l
  pointwise [k0_pay68, k0_pay16, k0_pay57, k0_pay58, k0_pay59, k0_pay2, k0_pay3, k0_pay4]

/-- Row 10 of the first convolution. -/
theorem convRow10 : IsConvRow x0 x1 x2 560 (by decide)
    (k0_pay69 x0 x1 x2 x3 x4 x5 x6 x7 x8 x9 x10 x11 x12 x13 x14) := by
  intro r l
  pointwise [k0_pay69, k0_pay17, k0_pay57, k0_pay58, k0_pay59, k0_pay2, k0_pay3, k0_pay4]

/-- Row 11 of the first convolution. -/
theorem convRow11 : IsConvRow x0 x1 x2 616 (by decide)
    (k0_pay18 (k0_pay57 x0 x1 x2 x3 x4 x5 x6 x7 x8 x9 x10 x11 x12 x13 x14) (k0_pay58 x0 x1 x2 x3 x4 x5 x6 x7 x8 x9 x10 x11 x12 x13 x14) (k0_pay59 x0 x1 x2 x3 x4 x5 x6 x7 x8 x9 x10 x11 x12 x13 x14)) := by
  intro r l
  pointwise [k0_pay18, k0_pay57, k0_pay58, k0_pay59, k0_pay2, k0_pay3, k0_pay4]

/-! ## The second convolution -/

/-- A row of the second convolution as the kernel computes it: three rows side by side against the banded matrix, the
    bias and the activation. -/
def IsConvRow2 (a b c : FVec Ideal S256x384 .f32) (w : FVec Ideal S1152x320 .f32) (v : FVec Ideal S1x320 .f32)
    (y : FVec Ideal S256x320 .f32) : Prop :=
  ∀ (r : Fin 256) (l : Fin 320), y (ix2 r l) = Ideal.tanh ((∑ x : Fin 1152,
      (if h : x.val < 384 then a (ix2 r ⟨x.val, by omega⟩)
        else if h : x.val - 384 < 384 then b (ix2 r ⟨x.val - 384, by omega⟩) else c (ix2 r ⟨x.val - 384 - 384, by omega⟩))
      * w (ix2 x l)) + v (ix2 0 l))

/-- A block row holds activated row `i` of the second convolution: at lane `32 j + o` the value of channel `o`, column
    `j`. -/
def IsAct (A : Args) (row : Fin 256 → Fin 4096) (i : Fin 10) (y : FVec Ideal S256x320 .f32) : Prop :=
  ∀ (r : Fin 256) (j : Fin 10) (o : Fin 32), y (ix2 r ⟨32 * j.val + o.val, by omega⟩) = Net.act2 A (row r) o i j

/-- A row computed as the kernel does from three neighbouring pooled rows and fitting buffers holds an activated row. -/
theorem isAct_of_conv {A : Args} {row : Fin 256 → Fin 4096} {x3 : FVec Ideal S1152x320 .f32} {x4 : FVec Ideal S1x320 .f32}
    (hw : ∀ (d : Fin 3) (q : Fin 12) (p : Fin 2) (c : Fin 16) (j : Fin 10) (o : Fin 32),
      x3 (ix2 ⟨384 * d.val + (32 * q.val + (16 * p.val + c.val)), by omega⟩ ⟨32 * j.val + o.val, by omega⟩)
        = Net.band2 A d q p c j o)
    (hb : ∀ (j : Fin 10) (o : Fin 32), x4 (ix2 0 ⟨32 * j.val + o.val, by omega⟩) = A.b2 o)
    (i : Fin 10) {a b c : FVec Ideal S256x384 .f32} {y : FVec Ideal S256x320 .f32}
    (ha : IsPool A row ⟨i.val, by omega⟩ a) (hb' : IsPool A row ⟨i.val + 1, by omega⟩ b)
    (hc : IsPool A row ⟨i.val + 2, by omega⟩ c) (hy : IsConvRow2 a b c x3 x4 y) : IsAct A row i y := by
  intro r j o
  rw [hy, hb]
  unfold Net.act2
  congr 2
  let f : Fin 3 → Fin 12 → Fin 2 → Fin 16 → EReal := fun d q p c' =>
    (![a, b, c] d) (ix2 r ⟨32 * q.val + (16 * p.val + c'.val), by omega⟩)
  rw [← Net.conv2_sum A (row r) i j o f]
  · rw [Net.sum_rows 3 384 rfl]
    refine Finset.sum_congr rfl fun d _ => ?_
    rw [Net.sum_rows 12 32 rfl]
    refine Finset.sum_congr rfl fun q _ => ?_
    rw [Net.sum_rows 2 16 rfl]
    refine Finset.sum_congr rfl fun p _ => Finset.sum_congr rfl fun c' _ => ?_
    rw [hw]
    congr 1
    have hq := q.isLt
    have hp := p.isLt
    have hc' := c'.isLt
    fin_cases d
    · rw [dif_pos (by simp; omega)]
      show a _ = a _
      congr 2
      exact Fin.ext (by simp)
    · rw [dif_neg (by simp), dif_pos (by simp; omega)]
      show b _ = b _
      congr 2
      exact Fin.ext (by simp)
    · rw [dif_neg (by simp; omega), dif_neg (by simp; omega)]
      show c _ = c _
      congr 2
      exact Fin.ext (by simp; omega)
  · intro d q c'
    fin_cases d
    · refine Eq.trans ?_ (ha r q c')
      show a _ = a _
      congr 2
      exact Fin.ext (by simp)
    · refine Eq.trans ?_ (hb' r q c')
      show b _ = b _
      congr 2
      exact Fin.ext (by simp)
    · refine Eq.trans ?_ (hc r q c')
      show c _ = c _
      congr 2
      exact Fin.ext (by simp)

/-- Row 0 of the second convolution. -/
theorem convRow2_0 : IsConvRow2 (k0_pay5 (View.ld x0 r0_0) (View.ld x1 r0_1) (View.ld x2 r0_2))
    (k0_pay60 x0 x1 x2 x3 x4 x5 x6 x7 x8 x9 x10 x11 x12 x13 x14)
    (k0_pay61 x0 x1 x2 x3 x4 x5 x6 x7 x8 x9 x10 x11 x12 x13 x14) x3 x4
    (k0_pay72 x0 x1 x2 x3 x4 x5 x6 x7 x8 x9 x10 x11 x12 x13 x14) := by
  intro r l
  pointwise [k0_pay72, k0_pay21, k0_pay70, k0_pay71, k0_pay19, k0_pay20]

/-- Row 1 of the second convolution. -/
theorem convRow2_1 : IsConvRow2 (k0_pay60 x0 x1 x2 x3 x4 x5 x6 x7 x8 x9 x10 x11 x12 x13 x14)
    (k0_pay61 x0 x1 x2 x3 x4 x5 x6 x7 x8 x9 x10 x11 x12 x13 x14)
    (k0_pay62 x0 x1 x2 x3 x4 x5 x6 x7 x8 x9 x10 x11 x12 x13 x14) x3 x4
    (k0_pay73 x0 x1 x2 x3 x4 x5 x6 x7 x8 x9 x10 x11 x12 x13 x14) := by
  intro r l
  pointwise [k0_pay73, k0_pay22, k0_pay70, k0_pay71, k0_pay19, k0_pay20]

/-- Row 2 of the second convolution. -/
theorem convRow2_2 : IsConvRow2 (k0_pay61 x0 x1 x2 x3 x4 x5 x6 x7 x8 x9 x10 x11 x12 x13 x14)
    (k0_pay62 x0 x1 x2 x3 x4 x5 x6 x7 x8 x9 x10 x11 x12 x13 x14)
    (k0_pay63 x0 x1 x2 x3 x4 x5 x6 x7 x8 x9 x10 x11 x12 x13 x14) x3 x4
    (k0_pay74 x0 x1 x2 x3 x4 x5 x6 x7 x8 x9 x10 x11 x12 x13 x14) := by
  intro r l
  pointwise [k0_pay74, k0_pay24, k0_pay23, k0_pay70, k0_pay71, k0_pay19, k0_pay20]

/-- Row 3 of the second convolution. -/
theorem convRow2_3 : IsConvRow2 (k0_pay62 x0 x1 x2 x3 x4 x5 x6 x7 x8 x9 x10 x11 x12 x13 x14)
    (k0_pay63 x0 x1 x2 x3 x4 x5 x6 x7 x8 x9 x10 x11 x12 x13 x14)
    (k0_pay64 x0 x1 x2 x3 x4 x5 x6 x7 x8 x9 x10 x11 x12 x13 x14) x3 x4
    (k0_pay75 x0 x1 x2 x3 x4 x5 x6 x7 x8 x9 x10 x11 x12 x13 x14) := by
  intro r l
  pointwise [k0_pay75, k0_pay25, k0_pay70, k0_pay71, k0_pay19, k0_pay20]

/-- Row 4 of the second convolution. -/
theorem convRow2_4 : IsConvRow2 (k0_pay63 x0 x1 x2 x3 x4 x5 x6 x7 x8 x9 x10 x11 x12 x13 x14)
    (k0_pay64 x0 x1 x2 x3 x4 x5 x6 x7 x8 x9 x10 x11 x12 x13 x14)
    (k0_pay65 x0 x1 x2 x3 x4 x5 x6 x7 x8 x9 x10 x11 x12 x13 x14) x3 x4
    (k0_pay76 x0 x1 x2 x3 x4 x5 x6 x7 x8 x9 x10 x11 x12 x13 x14) := by
  intro r l
  pointwise [k0_pay76, k0_pay26, k0_pay70, k0_pay71, k0_pay19, k0_pay20]

/-- Row 5 of the second convolution. -/
theorem convRow2_5 : IsConvRow2 (k0_pay64 x0 x1 x2 x3 x4 x5 x6 x7 x8 x9 x10 x11 x12 x13 x14)
    (k0_pay65 x0 x1 x2 x3 x4 x5 x6 x7 x8 x9 x10 x11 x12 x13 x14)
    (k0_pay66 x0 x1 x2 x3 x4 x5 x6 x7 x8 x9 x10 x11 x12 x13 x14) x3 x4
    (k0_pay77 x0 x1 x2 x3 x4 x5 x6 x7 x8 x9 x10 x11 x12 x13 x14) := by
  intro r l
  pointwise [k0_pay77, k0_pay27, k0_pay70, k0_pay71, k0_pay19, k0_pay20]

/-- Row 6 of the second convolution. -/
theorem convRow2_6 : IsConvRow2 (k0_pay65 x0 x1 x2 x3 x4 x5 x6 x7 x8 x9 x10 x11 x12 x13 x14)
    (k0_pay66 x0 x1 x2 x3 x4 x5 x6 x7 x8 x9 x10 x11 x12 x13 x14)
    (k0_pay67 x0 x1 x2 x3 x4 x5 x6 x7 x8 x9 x10 x11 x12 x13 x14) x3 x4
    (k0_pay78 x0 x1 x2 x3 x4 x5 x6 x7 x8 x9 x10 x11 x12 x13 x14) := by
  intro r l
  pointwise [k0_pay78, k0_pay28, k0_pay70, k0_pay71, k0_pay19, k0_pay20]

/-- Row 7 of the second convolution. -/
theorem convRow2_7 : IsConvRow2 (k0_pay66 x0 x1 x2 x3 x4 x5 x6 x7 x8 x9 x10 x11 x12 x13 x14)
    (k0_pay67 x0 x1 x2 x3 x4 x5 x6 x7 x8 x9 x10 x11 x12 x13 x14)
    (k0_pay68 x0 x1 x2 x3 x4 x5 x6 x7 x8 x9 x10 x11 x12 x13 x14) x3 x4
    (k0_pay79 x0 x1 x2 x3 x4 x5 x6 x7 x8 x9 x10 x11 x12 x13 x14) := by
  intro r l
  pointwise [k0_pay79, k0_pay29, k0_pay70, k0_pay71, k0_pay19, k0_pay20]

/-- Row 8 of the second convolution. -/
theorem convRow2_8 : IsConvRow2 (k0_pay67 x0 x1 x2 x3 x4 x5 x6 x7 x8 x9 x10 x11 x12 x13 x14)
    (k0_pay68 x0 x1 x2 x3 x4 x5 x6 x7 x8 x9 x10 x11 x12 x13 x14)
    (k0_pay69 x0 x1 x2 x3 x4 x5 x6 x7 x8 x9 x10 x11 x12 x13 x14) x3 x4
    (k0_pay80 x0 x1 x2 x3 x4 x5 x6 x7 x8 x9 x10 x11 x12 x13 x14) := by
  intro r l
  pointwise [k0_pay80, k0_pay30, k0_pay70, k0_pay71, k0_pay19, k0_pay20]

/-- Row 9 of the second convolution. -/
theorem convRow2_9 : IsConvRow2 (k0_pay68 x0 x1 x2 x3 x4 x5 x6 x7 x8 x9 x10 x11 x12 x13 x14)
    (k0_pay69 x0 x1 x2 x3 x4 x5 x6 x7 x8 x9 x10 x11 x12 x13 x14)
    (k0_pay18 (k0_pay57 x0 x1 x2 x3 x4 x5 x6 x7 x8 x9 x10 x11 x12 x13 x14) (k0_pay58 x0 x1 x2 x3 x4 x5 x6 x7 x8 x9 x10 x11 x12 x13 x14) (k0_pay59 x0 x1 x2 x3 x4 x5 x6 x7 x8 x9 x10 x11 x12 x13 x14)) x3 x4
    (k0_pay81 x0 x1 x2 x3 x4 x5 x6 x7 x8 x9 x10 x11 x12 x13 x14) := by
  intro r l
  pointwise [k0_pay81, k0_pay31, k0_pay70, k0_pay71, k0_pay19, k0_pay20]

variable {A : Args} {row : Fin 256 → Fin 4096}

/-- The ten activated rows of a block. -/
theorem acts (H : Fits A row x0 x1 x2 x3 x4 x5 x6 x7 x8 x9 x10 x11 x12 x13 x14) :
    IsAct A row 0 (k0_pay72 x0 x1 x2 x3 x4 x5 x6 x7 x8 x9 x10 x11 x12 x13 x14) ∧
    IsAct A row 1 (k0_pay73 x0 x1 x2 x3 x4 x5 x6 x7 x8 x9 x10 x11 x12 x13 x14) ∧
    IsAct A row 2 (k0_pay74 x0 x1 x2 x3 x4 x5 x6 x7 x8 x9 x10 x11 x12 x13 x14) ∧
    IsAct A row 3 (k0_pay75 x0 x1 x2 x3 x4 x5 x6 x7 x8 x9 x10 x11 x12 x13 x14) ∧
    IsAct A row 4 (k0_pay76 x0 x1 x2 x3 x4 x5 x6 x7 x8 x9 x10 x11 x12 x13 x14) ∧
    IsAct A row 5 (k0_pay77 x0 x1 x2 x3 x4 x5 x6 x7 x8 x9 x10 x11 x12 x13 x14) ∧
    IsAct A row 6 (k0_pay78 x0 x1 x2 x3 x4 x5 x6 x7 x8 x9 x10 x11 x12 x13 x14) ∧
    IsAct A row 7 (k0_pay79 x0 x1 x2 x3 x4 x5 x6 x7 x8 x9 x10 x11 x12 x13 x14) ∧
    IsAct A row 8 (k0_pay80 x0 x1 x2 x3 x4 x5 x6 x7 x8 x9 x10 x11 x12 x13 x14) ∧
    IsAct A row 9 (k0_pay81 x0 x1 x2 x3 x4 x5 x6 x7 x8 x9 x10 x11 x12 x13 x14) := by
  have p0 := isPool_of_conv H.image H.band1 H.bias1 0 _ _ rfl (convRow0 x0 x1 x2)
  have p1 := isPool_of_conv H.image H.band1 H.bias1 1 _ _ rfl (convRow1 x0 x1 x2 x3 x4 x5 x6 x7 x8 x9 x10 x11 x12 x13 x14)
  have p2 := isPool_of_conv H.image H.band1 H.bias1 2 _ _ rfl (convRow2 x0 x1 x2 x3 x4 x5 x6 x7 x8 x9 x10 x11 x12 x13 x14)
  have p3 := isPool_of_conv H.image H.band1 H.bias1 3 _ _ rfl (convRow3 x0 x1 x2 x3 x4 x5 x6 x7 x8 x9 x10 x11 x12 x13 x14)
  have p4 := isPool_of_conv H.image H.band1 H.bias1 4 _ _ rfl (convRow4 x0 x1 x2 x3 x4 x5 x6 x7 x8 x9 x10 x11 x12 x13 x14)
  have p5 := isPool_of_conv H.image H.band1 H.bias1 5 _ _ rfl (convRow5 x0 x1 x2 x3 x4 x5 x6 x7 x8 x9 x10 x11 x12 x13 x14)
  have p6 := isPool_of_conv H.image H.band1 H.bias1 6 _ _ rfl (convRow6 x0 x1 x2 x3 x4 x5 x6 x7 x8 x9 x10 x11 x12 x13 x14)
  have p7 := isPool_of_conv H.image H.band1 H.bias1 7 _ _ rfl (convRow7 x0 x1 x2 x3 x4 x5 x6 x7 x8 x9 x10 x11 x12 x13 x14)
  have p8 := isPool_of_conv H.image H.band1 H.bias1 8 _ _ rfl (convRow8 x0 x1 x2 x3 x4 x5 x6 x7 x8 x9 x10 x11 x12 x13 x14)
  have p9 := isPool_of_conv H.image H.band1 H.bias1 9 _ _ rfl (convRow9 x0 x1 x2 x3 x4 x5 x6 x7 x8 x9 x10 x11 x12 x13 x14)
  have p10 := isPool_of_conv H.image H.band1 H.bias1 10 _ _ rfl (convRow10 x0 x1 x2 x3 x4 x5 x6 x7 x8 x9 x10 x11 x12 x13 x14)
  have p11 := isPool_of_conv H.image H.band1 H.bias1 11 _ _ rfl (convRow11 x0 x1 x2 x3 x4 x5 x6 x7 x8 x9 x10 x11 x12 x13 x14)
  have a0 := isAct_of_conv H.band2 H.bias2 0 p0 p1 p2 (convRow2_0 x0 x1 x2 x3 x4 x5 x6 x7 x8 x9 x10 x11 x12 x13 x14)
  have a1 := isAct_of_conv H.band2 H.bias2 1 p1 p2 p3 (convRow2_1 x0 x1 x2 x3 x4 x5 x6 x7 x8 x9 x10 x11 x12 x13 x14)
  have a2 := isAct_of_conv H.band2 H.bias2 2 p2 p3 p4 (convRow2_2 x0 x1 x2 x3 x4 x5 x6 x7 x8 x9 x10 x11 x12 x13 x14)
  have a3 := isAct_of_conv H.band2 H.bias2 3 p3 p4 p5 (convRow2_3 x0 x1 x2 x3 x4 x5 x6 x7 x8 x9 x10 x11 x12 x13 x14)
  have a4 := isAct_of_conv H.band2 H.bias2 4 p4 p5 p6 (convRow2_4 x0 x1 x2 x3 x4 x5 x6 x7 x8 x9 x10 x11 x12 x13 x14)
  have a5 := isAct_of_conv H.band2 H.bias2 5 p5 p6 p7 (convRow2_5 x0 x1 x2 x3 x4 x5 x6 x7 x8 x9 x10 x11 x12 x13 x14)
  have a6 := isAct_of_conv H.band2 H.bias2 6 p6 p7 p8 (convRow2_6 x0 x1 x2 x3 x4 x5 x6 x7 x8 x9 x10 x11 x12 x13 x14)
  have a7 := isAct_of_conv H.band2 H.bias2 7 p7 p8 p9 (convRow2_7 x0 x1 x2 x3 x4 x5 x6 x7 x8 x9 x10 x11 x12 x13 x14)
  have a8 := isAct_of_conv H.band2 H.bias2 8 p8 p9 p10 (convRow2_8 x0 x1 x2 x3 x4 x5 x6 x7 x8 x9 x10 x11 x12 x13 x14)
  have a9 := isAct_of_conv H.band2 H.bias2 9 p9 p10 p11 (convRow2_9 x0 x1 x2 x3 x4 x5 x6 x7 x8 x9 x10 x11 x12 x13 x14)
  exact ⟨a0, a1, a2, a3, a4, a5, a6, a7, a8, a9⟩

end Cert.Proof.KernelBlock

end
-- ==== Proof.KernelFits.lean ====
/-
  Every entry of the arrays the kernel's windows stand on, in terms of the network's arguments.
-/
module

public import proofs.«01_k».proof.Proof.KernelHost
public import proofs.«01_k».proof.Proof.KernelConv

@[expose] public section

set_option maxRecDepth 16384
set_option maxHeartbeats 1000000

noncomputable section

namespace Cert.Proof.KernelHost

open Idealize.ShloMosaic Idealize.ShloMosaic.TcCoe Cert.KernelIdeal Cert.KernelIdeal.Gen
open scoped BigOperators

variable (m : (ℓ : Loc nD τ sig) → Buf (Elt Ideal) ℓ) (c : Dev nD)

/-- Two entries of a column at equal rows are equal. -/
theorem at_row {N K : ℕ} {X : (⟨2, ![N, K]⟩ : Shape).Idx → EReal} {k k' : Fin N} {h : Fin K} (e : k.val = k'.val) :
    X (ix2 k h) = X (ix2 k' h) := by rw [Fin.ext e]

/-- Two entries of a column of one slice at equal rows are equal. -/
theorem at_slice {E N K : ℕ} {X : (⟨3, ![E, N, K]⟩ : Shape).Idx → EReal} {e : Fin E} {k k' : Fin N} {h : Fin K}
    (w : k.val = k'.val) : X (ix3 e k h) = X (ix3 e k' h) := by rw [Fin.ext w]

/-- The images flattened. -/
theorem image (n : Fin 4096) (i q : Fin 28) :
    (V m c main_v0 : S4096x784.Idx → EReal) (ix2 n ⟨28 * i.val + q.val, by omega⟩) = (args m c).x n i q := by
  unfold V
  after_reads_at
  refine congrArg (m (c, Proc.tc.devRef main_arg0)) ?_
  congr 1 <;> exact Fin.ext (by simp; omega)

/-- One band of the first convolution's matrix. -/
theorem band (i : Fin 5) (q : Fin 28) (j : Fin 24) (ch : Fin 16) :
    (V m c main_v10 : S140x384.Idx → EReal) (ix2 ⟨28 * i.val + q.val, by omega⟩ ⟨16 * j.val + ch.val, by omega⟩)
      = Net.band ((args m c).w1 ch i) q.val j.val := by
  unfold V
  after_reads_at
  refine Finset.sum_congr rfl fun x _ => ?_
  rw [selector _ _ _ (by omega) (by omega) (by omega)]
  rfl

/-- The first convolution's matrix is the matrix with one band, its band set once more. -/
theorem second_set : (V m c main_v19 : S168x768.Idx → EReal)
    = Host.scatter scatter_S168x768_S2_S140x384_01_n_01_0 (fun _ y => y) (V m c main_v15 : S168x768.Idx → EReal)
      (V m c main_v18 : S2.Idx → BitVec 32) (V m c main_v10 : S140x384.Idx → EReal) := by
  unfold V
  after_reads_simp
  rfl

/-- The matrix with one band is the zero matrix, its band set. -/
theorem first_set : (V m c main_v15 : S168x768.Idx → EReal)
    = Host.scatter scatter_S168x768_S2_S140x384_01_n_01_0 (fun _ y => y) (V m c main_v11 : S168x768.Idx → EReal)
      (V m c main_v14 : S2.Idx → BitVec 32) (V m c main_v10 : S140x384.Idx → EReal) := by
  unfold V
  after_reads_simp
  rfl

/-- The first band starts at the corner. -/
theorem first_start (i : Fin 2) : (V m c main_v14 : S2.Idx → BitVec 32) (ix1 i) = 0#32 := by
  unfold V
  after_reads_at
  exact ite_self _

/-- The second band starts one image row down, in the second half of the columns. -/
theorem second_start (i : Fin 2) : (V m c main_v18 : S2.Idx → BitVec 32) (ix1 i) = if i = 0 then 28#32 else 384#32 := by
  unfold V
  after_reads_at
  fin_cases i <;> rfl

/-- The matrix the bands are set in is zero. -/
theorem ground (a : Fin 168) (b : Fin 768) : (V m c main_v11 : S168x768.Idx → EReal) (ix2 a b) = (0 : EReal) := by
  unfold V
  after_reads_at

/-- The first convolution's matrix. -/
theorem band1 (s : Fin 2) (i : Fin 6) (q : Fin 28) (j : Fin 24) (ch : Fin 16) :
    (V m c main_v19 : S168x768.Idx → EReal)
        (ix2 ⟨28 * i.val + q.val, by omega⟩ ⟨384 * s.val + (16 * j.val + ch.val), by omega⟩)
      = Net.band1 (args m c) s i q j ch := by
  have h18a : ((V m c main_v18 : S2.Idx → BitVec 32) (ix1 0)).toInt = (28 : ℕ) := by rw [second_start]; rfl
  have h18b : ((V m c main_v18 : S2.Idx → BitVec 32) (ix1 1)).toInt = (384 : ℕ) := by rw [second_start]; rfl
  have h14a : ((V m c main_v14 : S2.Idx → BitVec 32) (ix1 0)).toInt = (0 : ℕ) := by rw [first_start]; rfl
  have h14b : ((V m c main_v14 : S2.Idx → BitVec 32) (ix1 1)).toInt = (0 : ℕ) := by rw [first_start]; rfl
  have one : ∀ (a : Fin 168) (b : Fin 768), (V m c main_v15 : S168x768.Idx → EReal) (ix2 a b) = _ := fun a b =>
    (congrFun (first_set m c) _).trans (place2 _ _ _ 0 0 h14a h14b a b)
  refine (congrFun (second_set m c) _).trans ((place2 _ _ _ 28 384 h18a h18b _ _).trans ?_)
  rw [one, ground, Net.band1]
  have at_band : ∀ (i' : Fin 5) (a : Fin 140) (b : Fin 384), a.val = 28 * i'.val + q.val → b.val = 16 * j.val + ch.val →
      (V m c main_v10 : S140x384.Idx → EReal) (ix2 a b) = Net.band ((args m c).w1 ch i') q.val j.val := by
    intro i' a b ha hb
    rw [← band m c i' q j ch]
    exact congrArg₂ (fun a b => (V m c main_v10 : S140x384.Idx → EReal) (ix2 a b)) (Fin.ext ha) (Fin.ext hb)
  by_cases hs : s = 0
  · subst hs
    rw [dif_neg (by simp <;> omega)]
    by_cases hi : i.val < 5
    · rw [dif_pos (by simp <;> omega), dif_pos (by simp <;> omega)]
      exact at_band _ _ _ (by simp) (by simp)
    · rw [dif_neg (by simp <;> omega), dif_neg (by simp <;> omega)]
  · obtain rfl : s = 1 := by omega
    by_cases hi : 1 ≤ i.val
    · rw [dif_pos (by simp <;> omega), dif_pos (by simp <;> omega)]
      exact at_band _ _ _ (by show _ = 28 * (i.val - 1) + q.val; simp <;> omega) (by simp)
    · rw [dif_neg (by simp <;> omega), dif_neg (by simp <;> omega), dif_neg (by simp <;> omega)]

/-- The first bias repeated along a row. -/
theorem bias1 (j : Fin 24) (ch : Fin 16) :
    (V m c main_v24 : S1x384.Idx → EReal) (ix2 0 ⟨16 * j.val + ch.val, by omega⟩) = (args m c).b1 ch := by
  unfold V
  after_reads_at
  rfl

/-- The bands of the second convolution's matrix. -/
theorem bands (d : Fin 3) (q : Fin 12) (ch : Fin 16) (j : Fin 10) (o : Fin 32) :
    (V m c main_v32 : S3x12x16x10x32.Idx → EReal) (ix5 d q ch j o)
      = Net.band (fun e : Fin 3 => (args m c).w2 o ch d e) q.val j.val := by
  unfold V
  after_reads_at
  refine Finset.sum_congr rfl fun x _ => ?_
  rw [selector _ _ _ (by omega) (by omega) (by omega)]
  rfl

/-- The second convolution's matrix is a zero array, its bands set. -/
theorem slab_set : (V m c main_v35 : S3x12x2x16x10x32.Idx → EReal)
    = Host.scatter scatter_S3x12x2x16x10x32_S1_S3x12x16x10x32_01234_2_2_0 (fun _ y => y)
      (V m c main_v33 : S3x12x2x16x10x32.Idx → EReal) (V m c main_v34 : S1.Idx → BitVec 32)
      (V m c main_v32 : S3x12x16x10x32.Idx → EReal) := by
  unfold V
  after_reads_simp
  rfl

/-- The bands are set at place zero. -/
theorem slab_start (i : Fin 1) : (V m c main_v34 : S1.Idx → BitVec 32) (ix1 i) = 0#32 := by
  unfold V
  after_reads_at

/-- The array the bands are set in is zero. -/
theorem slab_ground (d : Fin 3) (q : Fin 12) (p : Fin 2) (ch : Fin 16) (j : Fin 10) (o : Fin 32) :
    (V m c main_v33 : S3x12x2x16x10x32.Idx → EReal) (ix6 d q p ch j o) = (0 : EReal) := by
  unfold V
  after_reads_at

/-- The second convolution's matrix before it is flattened. -/
theorem slab (d : Fin 3) (q : Fin 12) (p : Fin 2) (ch : Fin 16) (j : Fin 10) (o : Fin 32) :
    (V m c main_v35 : S3x12x2x16x10x32.Idx → EReal) (ix6 d q p ch j o) = Net.band2 (args m c) d q p ch j o := by
  refine (congrFun (slab_set m c) _).trans ((place6 _ _ _ (by rw [slab_start]; rfl) d q p ch j o).trans ?_)
  rw [slab_ground, bands, Net.band2]

/-- The second convolution's matrix is the flattening. -/
theorem flat : (V m c main_v36 : S1152x320.Idx → EReal)
    = shapeCast S1152x320 (V m c main_v35 : S3x12x2x16x10x32.Idx → EReal) shapeCasts_S3x12x2x16x10x32_S1152x320 := by
  unfold V
  after_reads_simp
  rfl

/-- The flattening of six axes into two. -/
theorem flat_at (X : S3x12x2x16x10x32.Idx → EReal) (a : Fin 1152) (b : Fin 320) :
    (shapeCast S1152x320 X shapeCasts_S3x12x2x16x10x32_S1152x320 : S1152x320.Idx → EReal) (ix2 a b)
      = X (ix6 ⟨a.val / 384, by omega⟩ ⟨a.val / 32 % 12, by omega⟩ ⟨a.val / 16 % 2, by omega⟩ ⟨a.val % 16, by omega⟩
          ⟨b.val / 32, by omega⟩ ⟨b.val % 32, by omega⟩) := by
  pointwise []

/-- The second convolution's matrix. -/
theorem band2 (d : Fin 3) (q : Fin 12) (p : Fin 2) (ch : Fin 16) (j : Fin 10) (o : Fin 32) :
    (V m c main_v36 : S1152x320.Idx → EReal)
        (ix2 ⟨384 * d.val + (32 * q.val + (16 * p.val + ch.val)), by omega⟩ ⟨32 * j.val + o.val, by omega⟩)
      = Net.band2 (args m c) d q p ch j o := by
  rw [← slab, flat, flat_at]
  refine congrArg _ ?_
  congr 1 <;> exact Fin.ext (by show _ = _; dsimp only; omega)

/-- The second bias repeated along a row. -/
theorem bias2 (j : Fin 10) (o : Fin 32) :
    (V m c main_v41 : S1x320.Idx → EReal) (ix2 0 ⟨32 * j.val + o.val, by omega⟩) = (args m c).b2 o := by
  unfold V
  after_reads_at
  rfl

/-- The gate's weights stand in the first half of the columns. -/
theorem gateW (i j : Fin 10) (o : Fin 32) (h : Fin 128) :
    (V m c main_v48 : S10x320x256.Idx → EReal) (ix3 i ⟨32 * j.val + o.val, by omega⟩ ⟨h.val, by omega⟩)
      = (args m c).wg ⟨100 * o.val + 10 * i.val + j.val, by omega⟩ h := by
  unfold V
  after_reads_at
  exact at_row (by show _ = _; dsimp only; omega)

/-- The value's weights stand in the second half of the columns. -/
theorem valueW (i j : Fin 10) (o : Fin 32) (h : Fin 128) :
    (V m c main_v48 : S10x320x256.Idx → EReal) (ix3 i ⟨32 * j.val + o.val, by omega⟩ ⟨128 + h.val, by omega⟩)
      = (args m c).wv ⟨100 * o.val + 10 * i.val + j.val, by omega⟩ h := by
  unfold V
  after_reads_at
  exact at_row (by show _ = _; dsimp only; omega)

/-- The gate's bias stands in the first half. -/
theorem gateB (h : Fin 128) : (V m c main_v50 : S1x256.Idx → EReal) (ix2 0 ⟨h.val, by omega⟩) = (args m c).bg h := by
  unfold V
  after_reads_at
  after_reads_at
  rfl

/-- The value's bias stands in the second half. -/
theorem valueB (h : Fin 128) :
    (V m c main_v50 : S1x256.Idx → EReal) (ix2 0 ⟨128 + h.val, by omega⟩) = (args m c).bv h := by
  unfold V
  after_reads_at
  after_reads_at
  rfl

/-- The router's bias. -/
theorem routeB (e : Fin 5) : (V m c main_v85 : S1x5.Idx → EReal) (ix2 0 e) = (args m c).bo e := by
  unfold V
  after_reads_at
  rfl

/-- The experts' first weights side by side. -/
theorem expertW (e : Fin 5) (i j : Fin 10) (o : Fin 32) (h : Fin 128) :
    (V m c main_v83 : S10x320x640.Idx → EReal) (ix3 i ⟨32 * j.val + o.val, by omega⟩ ⟨128 * e.val + h.val, by omega⟩)
      = (args m c).u1 e ⟨100 * o.val + 10 * i.val + j.val, by omega⟩ h := by
  unfold V
  after_reads_at
  split
  · rename_i h0
    obtain rfl : e = 0 := Fin.ext (by show e.val = 0; omega)
    after_reads_at
    exact at_slice (by show _ = _; dsimp only; omega)
  split
  · rename_i h0
    obtain rfl : e = 1 := Fin.ext (by show e.val = 1; omega)
    after_reads_at
    exact at_slice (by show _ = _; dsimp only; omega)
  split
  · rename_i h0
    obtain rfl : e = 2 := Fin.ext (by show e.val = 2; omega)
    after_reads_at
    exact at_slice (by show _ = _; dsimp only; omega)
  split
  · rename_i h0
    obtain rfl : e = 3 := Fin.ext (by show e.val = 3; omega)
    after_reads_at
    exact at_slice (by show _ = _; dsimp only; omega)
  obtain rfl : e = 4 := Fin.ext (by show e.val = 4; omega)
  after_reads_at
  exact at_slice (by show _ = _; dsimp only; omega)

/-- The experts' first biases side by side. -/
theorem expertB (e : Fin 5) (h : Fin 128) :
    (V m c main_v84 : S1x640.Idx → EReal) (ix2 0 ⟨128 * e.val + h.val, by omega⟩) = (args m c).c1 e h := by
  unfold V
  after_reads_at
  refine congrArg (m (c, Proc.tc.devRef main_arg12)) ?_
  congr 1 <;> exact Fin.ext (by simp; omega)

/-- The experts' second biases. -/
theorem secondB (e : Fin 5) (h : Fin 128) :
    (V m c main_v86 : S5x1x128.Idx → EReal) (ix3 e 0 h) = (args m c).c2 e h := by
  unfold V
  after_reads_at
  rfl

/-- The last bias. -/
theorem lastB (j : Fin 10) : (V m c main_v87 : S1x10.Idx → EReal) (ix2 0 j) = (args m c).bs j := by
  unfold V
  after_reads_at
  rfl

/-- The router's weights, as they came. -/
theorem routeW (h : Fin 128) (e : Fin 5) : (V m c main_arg9 : S128x5.Idx → EReal) (ix2 h e) = (args m c).wo h e := by
  unfold V
  after_reads_at
  rfl

/-- The experts' second weights, as they came. -/
theorem secondW (e : Fin 5) (k h : Fin 128) :
    (V m c main_arg13 : S5x128x128.Idx → EReal) (ix3 e k h) = (args m c).u2 e k h := by
  unfold V
  after_reads_at
  rfl

/-- The last weights, as they came. -/
theorem lastW (h : Fin 128) (j : Fin 10) : (V m c main_arg15 : S128x10.Idx → EReal) (ix2 h j) = (args m c).ws h j := by
  unfold V
  after_reads_at
  rfl

open KernelWindows in
/-- The fifteen blocks of a grid point hold the entries of the arguments. -/
theorem fits (t : Fin cfg0.N) :
    KernelBlock.Fits (args m c) (row t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) (iblk m c 14 t) where
  image r i q := (congrFun (block0 m c t) _).trans (image m c (row t r) i q)
  band1 s i q j ch := (congrFun (block1 m c t) _).trans (band1 m c s i q j ch)
  bias1 j ch := (congrFun (block2 m c t) _).trans (bias1 m c j ch)
  band2 d q p ch j o := (congrFun (block3 m c t) _).trans (band2 m c d q p ch j o)
  bias2 j o := (congrFun (block4 m c t) _).trans (bias2 m c j o)
  gateW i j o h := (congrFun (block5 m c t) _).trans (gateW m c i j o h)
  valueW i j o h := (congrFun (block5 m c t) _).trans (valueW m c i j o h)
  gateB h := (congrFun (block6 m c t) _).trans (gateB m c h)
  valueB h := (congrFun (block6 m c t) _).trans (valueB m c h)
  routeW h e := (congrFun (block7 m c t) _).trans (routeW m c h e)
  routeB e := (congrFun (block8 m c t) _).trans (routeB m c e)
  expertW e i j o h := (congrFun (block9 m c t) _).trans (expertW m c e i j o h)
  expertB e h := (congrFun (block10 m c t) _).trans (expertB m c e h)
  secondW e k h := (congrFun (block11 m c t) _).trans (secondW m c e k h)
  secondB e h := (congrFun (block12 m c t) _).trans (secondB m c e h)
  lastW h j := (congrFun (block13 m c t) _).trans (lastW m c h j)
  lastB j := (congrFun (block14 m c t) _).trans (lastB m c j)

end Cert.Proof.KernelHost

end
-- ==== Proof.KernelRoute.lean ====
/-
  What one block of the kernel computes, second part: the sums over the features, the five logits and the five gates.
-/
module

public import proofs.«01_k».proof.Proof.KernelConv

@[expose] public section

set_option maxRecDepth 16384

noncomputable section

namespace Cert.Proof.Net

open Idealize.ShloMosaic

/-- The part of a sum over the features that lies in feature row `i`. -/
def part (A : Args) (n : Fin 4096) (w : Fin 3200 → EReal) (i : Fin 10) : EReal :=
  ∑ j : Fin 10, ∑ o : Fin 32, act2 A n o i j * w ⟨100 * o.val + 10 * i.val + j.val, by omega⟩

/-- The ten parts added in order are the sum over the features. -/
theorem parts_sum (A : Args) (n : Fin 4096) (w : Fin 3200 → EReal) :
    part A n w 0 + part A n w 1 + part A n w 2 + part A n w 3 + part A n w 4 + part A n w 5 + part A n w 6 + part A n w 7
      + part A n w 8 + part A n w 9 = ∑ k : Fin 3200, feat A n k * w k := by
  rw [feat_sum]
  show _ = ∑ i : Fin 10, part A n w i
  simp only [Fin.sum_univ_castSucc, Finset.univ_eq_empty, Finset.sum_empty, zero_add]
  rfl

/-- An expert of lower index goes before when its logit is greater or equal, spelt as the two comparisons. -/
theorem before_of_lt (L : Fin 5 → EReal) (f e : Fin 5) (h : f < e) : (L e < L f ∨ L f = L e) ↔ Before L f e := by
  unfold Before
  simp only [h, and_true]

/-- An expert of higher index goes before when its logit is greater. -/
theorem before_of_gt (L : Fin 5 → EReal) (f e : Fin 5) (h : e < f) : L e < L f ↔ Before L f e := by
  unfold Before
  simp only [not_lt.2 h.le, and_false, or_false]

theorem not_before_self (L : Fin 5 → EReal) (e : Fin 5) : ¬ Before L e e := by
  unfold Before
  simp

/-- A count of four one-bit comparisons, added as 32-bit words, and the choice it makes when it is under three. -/
theorem select_count {p q s t P Q S T : Prop} [Decidable p] [Decidable q] [Decidable s] [Decidable t] [Decidable P] [Decidable Q]
    [Decidable S] [Decidable T] (hp : p ↔ P) (hq : q ↔ Q) (hs : s ↔ S) (ht : t ↔ T) (x : EReal) :
    Scalar.select (IntOp.cmpi CmpIPredicate.slt (IntOp.addi (IntOp.addi (IntOp.addi (IntOp.addi (0#32)
      (BitVec.setWidth 32 (BitVec.ofBool (decide p)))) (BitVec.setWidth 32 (BitVec.ofBool (decide q))))
      (BitVec.setWidth 32 (BitVec.ofBool (decide s)))) (BitVec.setWidth 32 (BitVec.ofBool (decide t)))) 3#32) x 0
      = if (if P then 1 else 0) + (if Q then 1 else 0) + (if S then 1 else 0) + (if T then 1 else 0) < 3 then x else 0 := by
  by_cases h1 : P <;> by_cases h2 : Q <;> by_cases h3 : S <;> by_cases h4 : T <;> simp only [hp, hq, hs, ht, h1, h2, h3, h4] <;> rfl

/-- The disjunction of two one-bit comparisons. -/
theorem ori_decide (p q : Prop) [Decidable p] [Decidable q] :
    IntOp.ori (BitVec.ofBool (decide p)) (BitVec.ofBool (decide q)) = BitVec.ofBool (decide (p ∨ q)) := by
  by_cases h1 : p <;> by_cases h2 : q <;> simp only [h1, h2] <;> rfl

theorem rank_0 (L : Fin 5 → EReal) : rank L 0 = (if Before L 1 0 then 1 else 0) + (if Before L 2 0 then 1 else 0)
    + (if Before L 3 0 then 1 else 0) + (if Before L 4 0 then 1 else 0) := by
  unfold rank
  rw [Fin.sum_univ_five, if_neg (not_before_self L 0)]
  simp only [zero_add, add_zero]

theorem rank_1 (L : Fin 5 → EReal) : rank L 1 = (if Before L 0 1 then 1 else 0) + (if Before L 2 1 then 1 else 0)
    + (if Before L 3 1 then 1 else 0) + (if Before L 4 1 then 1 else 0) := by
  unfold rank
  rw [Fin.sum_univ_five, if_neg (not_before_self L 1)]
  simp only [zero_add, add_zero]

theorem rank_2 (L : Fin 5 → EReal) : rank L 2 = (if Before L 0 2 then 1 else 0) + (if Before L 1 2 then 1 else 0)
    + (if Before L 3 2 then 1 else 0) + (if Before L 4 2 then 1 else 0) := by
  unfold rank
  rw [Fin.sum_univ_five, if_neg (not_before_self L 2)]
  simp only [zero_add, add_zero]

theorem rank_3 (L : Fin 5 → EReal) : rank L 3 = (if Before L 0 3 then 1 else 0) + (if Before L 1 3 then 1 else 0)
    + (if Before L 2 3 then 1 else 0) + (if Before L 4 3 then 1 else 0) := by
  unfold rank
  rw [Fin.sum_univ_five, if_neg (not_before_self L 3)]
  simp only [zero_add, add_zero]

theorem rank_4 (L : Fin 5 → EReal) : rank L 4 = (if Before L 0 4 then 1 else 0) + (if Before L 1 4 then 1 else 0)
    + (if Before L 2 4 then 1 else 0) + (if Before L 3 4 then 1 else 0) := by
  unfold rank
  rw [Fin.sum_univ_five, if_neg (not_before_self L 4)]
  simp only [zero_add, add_zero]

end Cert.Proof.Net

namespace Cert.Proof.KernelBlock

open Idealize.ShloMosaic Cert.KernelIdeal Cert.KernelIdeal.Gen
open Cert.Proof.Net (Args)
open scoped BigOperators

variable {A : Args} {row : Fin 256 → Fin 4096}

/-- An activated row against a weight row that holds the weights of feature row `i`. -/
theorem row_sum {i : Fin 10} {y : FVec Ideal S256x320 .f32} (hy : IsAct A row i y) (r : Fin 256) (W : Fin 320 → EReal)
    (w : Fin 3200 → EReal)
    (hW : ∀ (j : Fin 10) (o : Fin 32), W ⟨32 * j.val + o.val, by omega⟩ = w ⟨100 * o.val + 10 * i.val + j.val, by omega⟩) :
    ∑ x : Fin 320, y (ix2 r x) * W x = Net.part A (row r) w i := by
  rw [Net.sum_rows 10 32 rfl]
  unfold Net.part
  exact Finset.sum_congr rfl fun j _ => Finset.sum_congr rfl fun o _ => by rw [hy, hW]

variable {x0 : Vec Ideal S256x784 .f32} {x1 : Vec Ideal S168x768 .f32} {x2 : Vec Ideal S1x384 .f32}
  {x3 : Vec Ideal S1152x320 .f32} {x4 : Vec Ideal S1x320 .f32} {x5 : Vec Ideal S10x320x256 .f32}
  {x6 : Vec Ideal S1x256 .f32} {x7 : Vec Ideal S128x5 .f32} {x8 : Vec Ideal S1x5 .f32}
  {x9 : Vec Ideal S10x320x640 .f32} {x10 : Vec Ideal S1x640 .f32} {x11 : Vec Ideal S5x128x128 .f32}
  {x12 : Vec Ideal S5x1x128 .f32} {x13 : Vec Ideal S128x10 .f32} {x14 : Vec Ideal S1x10 .f32}

/-- The gate layers' sum over the features. -/
theorem gateSum (H : Fits A row x0 x1 x2 x3 x4 x5 x6 x7 x8 x9 x10 x11 x12 x13 x14) (r l : Fin 256) (w : Fin 3200 → EReal)
    (hw : ∀ (i j : Fin 10) (o : Fin 32), x5 (ix3 i ⟨32 * j.val + o.val, by omega⟩ l) = w ⟨100 * o.val + 10 * i.val + j.val, by omega⟩) :
    k0_pay82 x0 x1 x2 x3 x4 x5 x6 x7 x8 x9 x10 x11 x12 x13 x14 (ix2 r l) + ∑ x : Fin 320, k0_pay81 x0 x1 x2 x3 x4 x5 x6 x7 x8 x9 x10 x11 x12 x13 x14 (ix2 r x) * x5 (ix3 9 x l)
      = ∑ k : Fin 3200, Net.feat A (row r) k * w k := by
  obtain ⟨a0, a1, a2, a3, a4, a5, a6, a7, a8, a9⟩ := acts _ _ _ _ _ _ _ _ _ _ _ _ _ _ _ H
  pointwise [k0_pay82, k0_pay33, k0_pay32]
  rw [row_sum a0 r (fun x => x5 (ix3 0 x l)) w (hw 0), row_sum a1 r (fun x => x5 (ix3 1 x l)) w (hw 1), row_sum a2 r (fun x => x5 (ix3 2 x l)) w (hw 2), row_sum a3 r (fun x => x5 (ix3 3 x l)) w (hw 3), row_sum a4 r (fun x => x5 (ix3 4 x l)) w (hw 4), row_sum a5 r (fun x => x5 (ix3 5 x l)) w (hw 5), row_sum a6 r (fun x => x5 (ix3 6 x l)) w (hw 6), row_sum a7 r (fun x => x5 (ix3 7 x l)) w (hw 7), row_sum a8 r (fun x => x5 (ix3 8 x l)) w (hw 8), row_sum a9 r (fun x => x5 (ix3 9 x l)) w (hw 9), Net.parts_sum]

/-- The experts' first layers' sum over the features. -/
theorem expertSum (H : Fits A row x0 x1 x2 x3 x4 x5 x6 x7 x8 x9 x10 x11 x12 x13 x14) (r : Fin 256) (l : Fin 640) (w : Fin 3200 → EReal)
    (hw : ∀ (i j : Fin 10) (o : Fin 32), x9 (ix3 i ⟨32 * j.val + o.val, by omega⟩ l) = w ⟨100 * o.val + 10 * i.val + j.val, by omega⟩) :
    k0_pay95 x0 x1 x2 x3 x4 x5 x6 x7 x8 x9 x10 x11 x12 x13 x14 (ix2 r l) + ∑ x : Fin 320, k0_pay81 x0 x1 x2 x3 x4 x5 x6 x7 x8 x9 x10 x11 x12 x13 x14 (ix2 r x) * x9 (ix3 9 x l)
      = ∑ k : Fin 3200, Net.feat A (row r) k * w k := by
  obtain ⟨a0, a1, a2, a3, a4, a5, a6, a7, a8, a9⟩ := acts _ _ _ _ _ _ _ _ _ _ _ _ _ _ _ H
  pointwise [k0_pay95, k0_pay52, k0_pay51]
  rw [row_sum a0 r (fun x => x9 (ix3 0 x l)) w (hw 0), row_sum a1 r (fun x => x9 (ix3 1 x l)) w (hw 1), row_sum a2 r (fun x => x9 (ix3 2 x l)) w (hw 2), row_sum a3 r (fun x => x9 (ix3 3 x l)) w (hw 3), row_sum a4 r (fun x => x9 (ix3 4 x l)) w (hw 4), row_sum a5 r (fun x => x9 (ix3 5 x l)) w (hw 5), row_sum a6 r (fun x => x9 (ix3 6 x l)) w (hw 6), row_sum a7 r (fun x => x9 (ix3 7 x l)) w (hw 7), row_sum a8 r (fun x => x9 (ix3 8 x l)) w (hw 8), row_sum a9 r (fun x => x9 (ix3 9 x l)) w (hw 9), Net.parts_sum]

/-- The block's logits. -/
theorem logits (H : Fits A row x0 x1 x2 x3 x4 x5 x6 x7 x8 x9 x10 x11 x12 x13 x14) (r : Fin 256) (e : Fin 5) :
    k0_pay34 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r e)
      = Net.logit A (row r) e := by
  pointwise [k0_pay34]
  unfold Net.logit
  rw [H.routeB]
  congr 1
  refine Finset.sum_congr rfl fun h _ => ?_
  rw [gateSum H r ⟨h.val, by omega⟩ (fun k => A.wg k h) fun i j o => H.gateW i j o h,
    gateSum H r ⟨128 + h.val, by omega⟩ (fun k => A.wv k h) fun i j o => H.valueW i j o h, H.gateB, H.valueB, H.routeW]
  rfl

/-- The column of logit 0. -/
theorem column0 (H : Fits A row x0 x1 x2 x3 x4 x5 x6 x7 x8 x9 x10 x11 x12 x13 x14) (r : Fin 256) : k0_pay83 x0 x1 x2 x3 x4 x5 x6 x7 x8 x9 x10 x11 x12 x13 x14 (ix2 r 0) = Net.logit A (row r) 0 := by
  rw [← logits H r 0]
  pointwise [k0_pay83, k0_pay35]

/-- The column of logit 1. -/
theorem column1 (H : Fits A row x0 x1 x2 x3 x4 x5 x6 x7 x8 x9 x10 x11 x12 x13 x14) (r : Fin 256) : k0_pay84 x0 x1 x2 x3 x4 x5 x6 x7 x8 x9 x10 x11 x12 x13 x14 (ix2 r 0) = Net.logit A (row r) 1 := by
  rw [← logits H r 1]
  pointwise [k0_pay84, k0_pay36]

/-- The column of logit 2. -/
theorem column2 (H : Fits A row x0 x1 x2 x3 x4 x5 x6 x7 x8 x9 x10 x11 x12 x13 x14) (r : Fin 256) : k0_pay85 x0 x1 x2 x3 x4 x5 x6 x7 x8 x9 x10 x11 x12 x13 x14 (ix2 r 0) = Net.logit A (row r) 2 := by
  rw [← logits H r 2]
  pointwise [k0_pay85, k0_pay37]

/-- The column of logit 3. -/
theorem column3 (H : Fits A row x0 x1 x2 x3 x4 x5 x6 x7 x8 x9 x10 x11 x12 x13 x14) (r : Fin 256) : k0_pay86 x0 x1 x2 x3 x4 x5 x6 x7 x8 x9 x10 x11 x12 x13 x14 (ix2 r 0) = Net.logit A (row r) 3 := by
  rw [← logits H r 3]
  pointwise [k0_pay86, k0_pay38]

/-- The column of logit 4. -/
theorem column4 (H : Fits A row x0 x1 x2 x3 x4 x5 x6 x7 x8 x9 x10 x11 x12 x13 x14) (r : Fin 256) : k0_pay87 x0 x1 x2 x3 x4 x5 x6 x7 x8 x9 x10 x11 x12 x13 x14 (ix2 r 0) = Net.logit A (row r) 4 := by
  rw [← logits H r 4]
  pointwise [k0_pay87, k0_pay39]

/-- The greatest logit of a row. -/
theorem greatest (H : Fits A row x0 x1 x2 x3 x4 x5 x6 x7 x8 x9 x10 x11 x12 x13 x14) (r : Fin 256) : k0_pay88 x0 x1 x2 x3 x4 x5 x6 x7 x8 x9 x10 x11 x12 x13 x14 (ix2 r 0) = Net.top (Net.logit A (row r)) := by
  unfold Net.top
  rw [← column0 H, ← column1 H, ← column2 H, ← column3 H, ← column4 H]
  rfl

/-- The gate of expert 0. -/
theorem gate0 (H : Fits A row x0 x1 x2 x3 x4 x5 x6 x7 x8 x9 x10 x11 x12 x13 x14) (r : Fin 256) : k0_pay89 x0 x1 x2 x3 x4 x5 x6 x7 x8 x9 x10 x11 x12 x13 x14 (ix2 r 0) = Net.gate (Net.logit A (row r)) 0 := by
  have c0 := column0 H r
  have c1 := column1 H r
  have c2 := column2 H r
  have c3 := column3 H r
  have c4 := column4 H r
  have ct := greatest H r
  generalize Net.logit A (row r) = L at c0 c1 c2 c3 c4 ct ⊢
  have d0 : k0_pay35 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 0 := c0
  have d1 : k0_pay36 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 1 := c1
  have d2 : k0_pay37 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 2 := c2
  have d3 : k0_pay38 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 3 := c3
  have d4 : k0_pay39 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 4 := c4
  have dt : k0_pay40 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = Net.top L := ct
  pointwise [k0_pay89, k0_pay41]
  simp only [d0, d1, d2, d3, d4, dt, c0, c1, c2, c3, c4, ct, Net.ori_decide]
  rw [Net.select_count (Net.before_of_gt L 1 0 (by decide)) (Net.before_of_gt L 2 0 (by decide)) (Net.before_of_gt L 3 0 (by decide)) (Net.before_of_gt L 4 0 (by decide))]
  unfold Net.gate
  rw [Net.rank_0]

/-- The gate of expert 1. -/
theorem gate1 (H : Fits A row x0 x1 x2 x3 x4 x5 x6 x7 x8 x9 x10 x11 x12 x13 x14) (r : Fin 256) : k0_pay90 x0 x1 x2 x3 x4 x5 x6 x7 x8 x9 x10 x11 x12 x13 x14 (ix2 r 0) = Net.gate (Net.logit A (row r)) 1 := by
  have c0 := column0 H r
  have c1 := column1 H r
  have c2 := column2 H r
  have c3 := column3 H r
  have c4 := column4 H r
  have ct := greatest H r
  generalize Net.logit A (row r) = L at c0 c1 c2 c3 c4 ct ⊢
  have d0 : k0_pay35 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 0 := c0
  have d1 : k0_pay36 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 1 := c1
  have d2 : k0_pay37 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 2 := c2
  have d3 : k0_pay38 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 3 := c3
  have d4 : k0_pay39 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = L 4 := c4
  have dt : k0_pay40 (k0_pay81 x0 x1 x2 x3 x4 x5 x6 x7 x8 x9 x10 x11 x12 x13 x14) (k0_pay82 x0 x1 x2 x3 x4 x5 x6 x7 x8 x9 x10 x11 x12 x13 x14) (View.ld x5 r0_14) (View.ld x6 r0_15) (View.ld x7 r0_16) (View.ld x8 r0_17) (ix2 r 0) = Net.top L := ct
  pointwise [k0_pay90, k0_pay44, k0_pay42, k0_pay43]
  simp only [d0, d1, d2, d3, d4, dt, c0, c1, c2, c3, c4, ct, Net.ori_decide]
  rw [Net.select_count (Net.before_of_lt L 0 1 (by decide)) (Net.before_of_gt L 2 1 (by decide)) (Net.before_of_gt L 3 1 (by decide)) (Net.before_of_gt L 4 1 (by decide))]
  unfold Net.gate
  rw [Net.rank_1]

/-- The gate of expert 2. -/
theorem gate2 (H : Fits A row x0 x1 x2 x3 x4 x5 x6 x7 x8 x9 x10 x11 x12 x13 x14) (r : Fin 256) : k0_pay91 x0 x1 x2 x3 x4 x5 x6 x7 x8 x9 x10 x11 x12 x13 x14 (ix2 r 0) = Net.gate (Net.logit A (row r)) 2 := by
  have c0 := column0 H r
  have c1 := column1 H r
  have c2 := column2 H r
  have c3 := column3 H r
  have c4 := column4 H r
  have ct := greatest H r
  generalize Net.logit A (row r) = L at c0 c1 c2 c3 c4 ct ⊢
  pointwise [k0_pay91, k0_pay45]
  simp only [c0, c1, c2, c3, c4, ct, Net.ori_decide]
  rw [Net.select_count (Net.before_of_lt L 0 2 (by decide)) (Net.before_of_lt L 1 2 (by decide)) (Net.before_of_gt L 3 2 (by decide)) (Net.before_of_gt L 4 2 (by decide))]
  unfold Net.gate
  rw [Net.rank_2]

/-- The gate of expert 3. -/
theorem gate3 (H : Fits A row x0 x1 x2 x3 x4 x5 x6 x7 x8 x9 x10 x11 x12 x13 x14) (r : Fin 256) : k0_pay48 (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14) (k0_pay92 x0 x1 x2 x3 x4 x5 x6 x7 x8 x9 x10 x11 x12 x13 x14) (k0_pay93 x0 x1 x2 x3 x4 x5 x6 x7 x8 x9 x10 x11 x12 x13 x14) (ix2 r 0) = Net.gate (Net.logit A (row r)) 3 := by
  have c0 := column0 H r
  have c1 := column1 H r
  have c2 := column2 H r
  have c3 := column3 H r
  have c4 := column4 H r
  have ct := greatest H r
  generalize Net.logit A (row r) = L at c0 c1 c2 c3 c4 ct ⊢
  pointwise [k0_pay48, k0_pay92, k0_pay46, k0_pay93, k0_pay47]
  simp only [c0, c1, c2, c3, c4, ct, Net.ori_decide]
  rw [Net.select_count (Net.before_of_lt L 0 3 (by decide)) (Net.before_of_lt L 1 3 (by decide)) (Net.before_of_lt L 2 3 (by decide)) (Net.before_of_gt L 4 3 (by decide))]
  unfold Net.gate
  rw [Net.rank_3]

/-- The gate of expert 4. -/
theorem gate4 (H : Fits A row x0 x1 x2 x3 x4 x5 x6 x7 x8 x9 x10 x11 x12 x13 x14) (r : Fin 256) : k0_pay49 (k0_pay83 x0 x1 x2 x3 x4 x5 x6 x7 x8 x9 x10 x11 x12 x13 x14) (k0_pay84 x0 x1 x2 x3 x4 x5 x6 x7 x8 x9 x10 x11 x12 x13 x14) (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14) (ix2 r 0) = Net.gate (Net.logit A (row r)) 4 := by
  have c0 := column0 H r
  have c1 := column1 H r
  have c2 := column2 H r
  have c3 := column3 H r
  have c4 := column4 H r
  have ct := greatest H r
  generalize Net.logit A (row r) = L at c0 c1 c2 c3 c4 ct ⊢
  pointwise [k0_pay49]
  simp only [c0, c1, c2, c3, c4, ct, Net.ori_decide]
  rw [Net.select_count (Net.before_of_lt L 0 4 (by decide)) (Net.before_of_lt L 1 4 (by decide)) (Net.before_of_lt L 2 4 (by decide)) (Net.before_of_lt L 3 4 (by decide))]
  unfold Net.gate
  rw [Net.rank_4]

/-- The sum of the gates. -/
theorem gates (H : Fits A row x0 x1 x2 x3 x4 x5 x6 x7 x8 x9 x10 x11 x12 x13 x14) (r : Fin 256) : k0_pay94 x0 x1 x2 x3 x4 x5 x6 x7 x8 x9 x10 x11 x12 x13 x14 (ix2 r 0) = ∑ e : Fin 5, Net.gate (Net.logit A (row r)) e := by
  rw [Fin.sum_univ_five, ← gate0 H, ← gate1 H, ← gate2 H, ← gate3 H, ← gate4 H]
  rfl

end Cert.Proof.KernelBlock

end
-- ==== Proof.KernelOut.lean ====
/-
  What one block of the kernel computes, third part: the experts, their mixture and the result.
-/
module

public import proofs.«01_k».proof.Proof.KernelRoute
public import Idealize.ShloMosaic.Lib.Pipeline.ValueKit

@[expose] public section

set_option maxRecDepth 16384

noncomputable section

namespace Cert.Proof.KernelBlock

open Idealize.ShloMosaic Cert.KernelIdeal Cert.KernelIdeal.Gen
open Cert.Proof.Net (Args)
open scoped BigOperators

variable {A : Args} {row : Fin 256 → Fin 4096}
variable {x0 : Vec Ideal S256x784 .f32} {x1 : Vec Ideal S168x768 .f32} {x2 : Vec Ideal S1x384 .f32}
  {x3 : Vec Ideal S1152x320 .f32} {x4 : Vec Ideal S1x320 .f32} {x5 : Vec Ideal S10x320x256 .f32}
  {x6 : Vec Ideal S1x256 .f32} {x7 : Vec Ideal S128x5 .f32} {x8 : Vec Ideal S1x5 .f32}
  {x9 : Vec Ideal S10x320x640 .f32} {x10 : Vec Ideal S1x640 .f32} {x11 : Vec Ideal S5x128x128 .f32}
  {x12 : Vec Ideal S5x1x128 .f32} {x13 : Vec Ideal S128x10 .f32} {x14 : Vec Ideal S1x10 .f32}

/-- The hidden layers of the five experts, side by side. -/
theorem hidden (H : Fits A row x0 x1 x2 x3 x4 x5 x6 x7 x8 x9 x10 x11 x12 x13 x14) (r : Fin 256) (e : Fin 5) (h : Fin 128) (l : Fin 640) (hl : l.val = 128 * e.val + h.val) :
    k0_pay53 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28) (ix2 r l) = Net.hid A (row r) e h := by
  have el : l = ⟨128 * e.val + h.val, by omega⟩ := Fin.ext hl
  rw [el]
  pointwise [k0_pay53]
  rw [expertSum H r _ (fun k => A.u1 e k h) fun i j o => H.expertW e i j o h, H.expertB]
  rfl

/-- The output of an expert as the kernel computes it from the hidden layers. -/
theorem second (H : Fits A row x0 x1 x2 x3 x4 x5 x6 x7 x8 x9 x10 x11 x12 x13 x14) (r : Fin 256) (e : Fin 5) (h : Fin 128) (l : Fin 128 → Fin 640)
    (hl : ∀ k, (l k).val = 128 * e.val + k.val) :
    Ideal.tanh ((∑ x : Fin 128, k0_pay53 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28) (ix2 r (l x))
      * x11 (ix3 e x h)) + x12 (ix3 e 0 h)) = Net.expert A (row r) e h := by
  unfold Net.expert
  rw [H.secondB]
  congr 2
  exact Finset.sum_congr rfl fun k _ => by rw [hidden H r e k (l k) (hl k), H.secondW]

/-- The mixture of the experts. -/
theorem mixture (H : Fits A row x0 x1 x2 x3 x4 x5 x6 x7 x8 x9 x10 x11 x12 x13 x14) (r : Fin 256) (h : Fin 128) :
    k0_pay56 (k0_pay91 x0 x1 x2 x3 x4 x5 x6 x7 x8 x9 x10 x11 x12 x13 x14) (k0_pay48 (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14) (k0_pay92 x0 x1 x2 x3 x4 x5 x6 x7 x8 x9 x10 x11 x12 x13 x14) (k0_pay93 x0 x1 x2 x3 x4 x5 x6 x7 x8 x9 x10 x11 x12 x13 x14))
      (k0_pay49 (k0_pay83 x0 x1 x2 x3 x4 x5 x6 x7 x8 x9 x10 x11 x12 x13 x14) (k0_pay84 x0 x1 x2 x3 x4 x5 x6 x7 x8 x9 x10 x11 x12 x13 x14) (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14)) (k0_pay94 x0 x1 x2 x3 x4 x5 x6 x7 x8 x9 x10 x11 x12 x13 x14)
      (k0_pay53 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28))
      (k0_pay54 (k0_pay81 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay94 x0 x1 x2 x3 x4 x5 x6 x7 x8 x9 x10 x11 x12 x13 x14) (k0_pay95 x0 x1 x2 x3 x4 x5 x6 x7 x8 x9 x10 x11 x12 x13 x14) (View.ld x9 r0_27) (View.ld x10 r0_28)
        (View.ld x11 r0_29) (View.ld x12 r0_30) (View.ld x11 r0_31) (View.ld x12 r0_32))
      (k0_pay55 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28))
      (View.ld x11 r0_33) (View.ld x12 r0_34) (View.ld x11 r0_35) (View.ld x12 r0_36) (View.ld x11 r0_37) (View.ld x12 r0_38)
      (ix2 r h) = Net.mix (Net.logit A (row r)) (fun e => Net.expert A (row r) e h) := by
  pointwise [k0_pay56, k0_pay54, k0_pay55]
  unfold Net.mix
  rw [Fin.sum_univ_five, gate0 H, gate1 H, gate2 H, gate3 H, gate4 H, gates H,
    second H r 0 h _ fun k => by simp, second H r 1 h _ fun k => by simp, second H r 2 h _ fun k => by simp,
    second H r 3 h _ fun k => by simp, second H r 4 h _ fun k => by simp]

/-- The last layer and its softmax, from the mixture. -/
theorem final (H : Fits A row x0 x1 x2 x3 x4 x5 x6 x7 x8 x9 x10 x11 x12 x13 x14) (r : Fin 256) (j : Fin 10) (z : FVec Ideal S256x128 .f32)
    (hz : ∀ h, z (ix2 r h) = Net.mix (Net.logit A (row r)) (fun e => Net.expert A (row r) e h)) :
    k0_pay1 z (View.ld x13 r0_39) (View.ld x14 r0_40) (ix2 r j) = Net.out A (row r) j := by
  have hl : ∀ k : Fin 10, (∑ h : Fin 128, z (ix2 r h) * x13 (ix2 h k)) + x14 (ix2 0 k) = Net.last A (row r) k := fun k => by
    unfold Net.last
    rw [H.lastB]
    congr 1
    exact Finset.sum_congr rfl fun h _ => by rw [hz, H.lastW]
  pointwise [k0_pay1]
  simp only [hl]
  unfold Net.out Net.softmax Net.rowMax
  rw [Net.ofBits_bottom]

/-- The result block of a grid point whose input buffers fit is the network's result at its images. -/
theorem block (H : Fits A row x0 x1 x2 x3 x4 x5 x6 x7 x8 x9 x10 x11 x12 x13 x14) (r : Fin 256) (j : Fin 10) : out0_15 x0 x1 x2 x3 x4 x5 x6 x7 x8 x9 x10 x11 x12 x13 x14 (ix2 r j) = Net.out A (row r) j := by
  rw [← final H r j _ fun h => mixture H r h]
  unfold out0_15
  generalize k0_pay56 (k0_pay91 x0 x1 x2 x3 x4 x5 x6 x7 x8 x9 x10 x11 x12 x13 x14) (k0_pay48 (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14) (k0_pay92 x0 x1 x2 x3 x4 x5 x6 x7 x8 x9 x10 x11 x12 x13 x14) (k0_pay93 x0 x1 x2 x3 x4 x5 x6 x7 x8 x9 x10 x11 x12 x13 x14))
      (k0_pay49 (k0_pay83 x0 x1 x2 x3 x4 x5 x6 x7 x8 x9 x10 x11 x12 x13 x14) (k0_pay84 x0 x1 x2 x3 x4 x5 x6 x7 x8 x9 x10 x11 x12 x13 x14) (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14) (k0_pay88 x0 x1 x2 x3 x4 x5 x6 x7 x8 x9 x10 x11 x12 x13 x14)) (k0_pay94 x0 x1 x2 x3 x4 x5 x6 x7 x8 x9 x10 x11 x12 x13 x14)
      (k0_pay53 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28))
      (k0_pay54 (k0_pay81 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay94 x0 x1 x2 x3 x4 x5 x6 x7 x8 x9 x10 x11 x12 x13 x14) (k0_pay95 x0 x1 x2 x3 x4 x5 x6 x7 x8 x9 x10 x11 x12 x13 x14) (View.ld x9 r0_27) (View.ld x10 r0_28)
        (View.ld x11 r0_29) (View.ld x12 r0_30) (View.ld x11 r0_31) (View.ld x12 r0_32))
      (k0_pay55 (k0_pay81 x0 x1 x2 x3 x4 x5 x6 x7 x8 x9 x10 x11 x12 x13 x14) (k0_pay95 x0 x1 x2 x3 x4 x5 x6 x7 x8 x9 x10 x11 x12 x13 x14) (View.ld x9 r0_27) (View.ld x10 r0_28))
      (View.ld x11 r0_33) (View.ld x12 r0_34) (View.ld x11 r0_35) (View.ld x12 r0_36) (View.ld x11 r0_37) (View.ld x12 r0_38) = z
  frame_out

end Cert.Proof.KernelBlock

end
-- ==== Proof.KernelArray.lean ====
/-
  The kernel's result as one array: the network of the arguments, row by row.
-/
module

public import proofs.«01_k».proof.Proof.KernelFits
public import proofs.«01_k».proof.Proof.KernelOut

@[expose] public section

set_option maxRecDepth 16384

noncomputable section

namespace Cert.Proof.KernelArray

open Idealize.ShloMosaic Idealize.ShloMosaic.TcCoe Cert.KernelIdeal Cert.KernelIdeal.Gen
open Cert.Proof.KernelHost Cert.Proof.KernelWindows

variable (m : (ℓ : Loc nD τ sig) → Buf (Elt Ideal) ℓ) (c : Dev nD)

/-- The network's results as one array. -/
def whole (A : Net.Args) : S4096x10.Idx → EReal := fun i => Net.out A (i 0) (i 1)

/-- What the kernel leaves in its result: the network of the arguments. -/
theorem final : ((dats m 0 c).arrAt 15 cfg0.N : S4096x10.Idx → EReal) = whole (args m c) := by
  refine (dats m 0 c).arrAt_eq_of_covers 15 _ (by decide +kernel) fun t hf y => ?_
  blk_simp
  rw [after0_15]
  have e : y = (ix2 (y 0) (y 1) : S256x10.Idx) := eq_ix2 y
  refine (congrArg _ e).trans ((KernelBlock.block (fits m c t) (y 0) (y 1)).trans ?_)
  refine Eq.trans ?_ (congrArg (whole (args m c)) ((congrArg _ e).trans (emb15 t (y 0) (y 1)))).symm
  rfl

end Cert.Proof.KernelArray

end
-- ==== Proof.ReferenceConv.lean ====
/-
  The reference's convolutions and pooling, read at an index: the features of the network.
-/
module

public import proofs.«01_k».proof.Proof.Sums
public import proofs.«01_k».proof.Proof.Arrays
public import proofs.«01_k».proof.Proof.Gen.ReferenceIdeal.Run
public import Idealize.ShloMosaic.Lib.Pointwise

@[expose] public section

set_option maxRecDepth 16384

noncomputable section

namespace Cert.Proof.Reference

open Idealize.ShloMosaic Idealize.ShloMosaic.TcCoe Cert.ReferenceIdeal Cert.ReferenceIdeal.Gen Cert.ReferenceIdeal.Value
open Idealize.ShloMosaic.StableHlo
open scoped BigOperators

/-- The network's arguments as memory holds them. -/
def args (V0 : Valuation τ sig (Elt Ideal)) : Net.Args :=
  Net.ofArrays (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16))

/-! ## The first convolution and the pooling -/

/-- One tap of the first convolution. -/
def tap1 (A : Net.Args) (n : Fin 4096) (c : Fin 16) (i j : Fin 24) (di dj : Fin 5) : EReal :=
  A.w1 c di dj * A.x n ⟨i.val + di.val, by omega⟩ ⟨j.val + dj.val, by omega⟩

/-- The taps of the first convolution in order. -/
theorem conv1_taps (A : Net.Args) (n : Fin 4096) (c : Fin 16) (i j : Fin 24) :
    Net.conv1 A n c i j
      = tap1 A n c i j 0 0 + tap1 A n c i j 0 1 + tap1 A n c i j 0 2 + tap1 A n c i j 0 3
        + tap1 A n c i j 0 4 + tap1 A n c i j 1 0 + tap1 A n c i j 1 1 + tap1 A n c i j 1 2
        + tap1 A n c i j 1 3 + tap1 A n c i j 1 4 + tap1 A n c i j 2 0 + tap1 A n c i j 2 1
        + tap1 A n c i j 2 2 + tap1 A n c i j 2 3 + tap1 A n c i j 2 4 + tap1 A n c i j 3 0
        + tap1 A n c i j 3 1 + tap1 A n c i j 3 2 + tap1 A n c i j 3 3 + tap1 A n c i j 3 4
        + tap1 A n c i j 4 0 + tap1 A n c i j 4 1 + tap1 A n c i j 4 2 + tap1 A n c i j 4 3
        + tap1 A n c i j 4 4 := by
  unfold Net.conv1
  simp only [Fin.sum_univ_five, ← add_assoc]
  rfl

/-- The first nine taps. -/
theorem taps9 (V0 : Valuation τ sig (Elt Ideal)) (A : Net.Args) (hA : args V0 = A) (n : Fin 4096) (c : Fin 16) (i j : Fin 24) :
    (res_main_v54 V0 : S4096x16x24x24.Idx → EReal) (ix4 n c i j)
      = tap1 A n c i j 0 0 + tap1 A n c i j 0 1 + tap1 A n c i j 0 2 + tap1 A n c i j 0 3
        + tap1 A n c i j 0 4 + tap1 A n c i j 1 0 + tap1 A n c i j 1 1 + tap1 A n c i j 1 2
        + tap1 A n c i j 1 3 := by
  subst hA
  unfold res_main_v54
  pointwise []
  simp only [Fin.sum_univ_one, Nat.add_comm 1, Nat.add_comm 2, Nat.add_comm 3, Nat.add_comm 4]
  rfl

/-- The first eighteen taps. -/
theorem taps18 (V0 : Valuation τ sig (Elt Ideal)) (A : Net.Args) (hA : args V0 = A) (n : Fin 4096) (c : Fin 16) (i j : Fin 24) :
    (res_main_v108 V0 : S4096x16x24x24.Idx → EReal) (ix4 n c i j)
      = tap1 A n c i j 0 0 + tap1 A n c i j 0 1 + tap1 A n c i j 0 2 + tap1 A n c i j 0 3
        + tap1 A n c i j 0 4 + tap1 A n c i j 1 0 + tap1 A n c i j 1 1 + tap1 A n c i j 1 2
        + tap1 A n c i j 1 3 + tap1 A n c i j 1 4 + tap1 A n c i j 2 0 + tap1 A n c i j 2 1
        + tap1 A n c i j 2 2 + tap1 A n c i j 2 3 + tap1 A n c i j 2 4 + tap1 A n c i j 3 0
        + tap1 A n c i j 3 1 + tap1 A n c i j 3 2 := by
  rw [← taps9 V0 A hA]
  subst hA
  unfold res_main_v108
  generalize res_main_v54 V0 = P
  pointwise []
  simp only [Fin.sum_univ_one, Nat.add_comm 1, Nat.add_comm 2, Nat.add_comm 3, Nat.add_comm 4]
  rfl

/-- The maximum over the two window axes. -/
theorem reduce_pool (X : S4096x16x12x2x12x2.Idx → EReal) (n : Fin 4096) (c : Fin 16) (i j : Fin 12) :
    (Host.reduce (FloatOps.maximumf (F := Ideal) (φ := .f32)) X (constant (F := Ideal) S_ .f32 0xFF800000#32)
        reducesTo_S4096x16x12x2x12x2_S4096x16x12x12_d3_5 h_S_ : S4096x16x12x12.Idx → EReal) (ix4 n c i j)
      = max (max (X (ix6 n c i 0 j 0)) (X (ix6 n c i 0 j 1))) (max (X (ix6 n c i 1 j 0)) (X (ix6 n c i 1 j 1))) := by
  rw [Host.reduce_eq_fold]
  rw [Finset.fold_filter_eq_fold_of_fiber (κ := Fin 2 × Fin 2) _ _ (fun k => ix6 n c i k.1 j k.2)
    (fun k k' e => Prod.ext (congrFun e 3) (congrFun e 5))]
  · have hu : (Finset.univ : Finset (Fin 2 × Fin 2)) = {(0, 0), (0, 1), (1, 0), (1, 1)} := by decide
    have hb : (constant (F := Ideal) S_ .f32 0xFF800000#32 : S_.Idx → EReal) (Shape.Idx.first h_S_) = ⊥ := Net.ofBits_bottom
    rw [hu, hb]
    show Finset.fold max (⊥ : EReal) _ _ = _
    rw [Finset.fold_insert (by decide), Finset.fold_insert (by decide), Finset.fold_insert (by decide), Finset.fold_singleton,
      max_bot_right, max_assoc]
  · intro y
    constructor
    · intro e
      refine ⟨(y 3, y 5), ?_⟩
      funext a
      apply Fin.ext
      fin_cases a
      · exact (congrArg Fin.val (congrFun e 0)).symm
      · exact (congrArg Fin.val (congrFun e 1)).symm
      · exact (congrArg Fin.val (congrFun e 2)).symm
      · rfl
      · exact (congrArg Fin.val (congrFun e 3)).symm
      · rfl
    · rintro ⟨k, rfl⟩
      funext b
      apply Fin.ext
      fin_cases b <;> rfl

/-- An index of the array cut into windows. -/
theorem windows (X : S4096x16x24x24.Idx → EReal) (n : Fin 4096) (c : Fin 16) (i j : Fin 12) (p q : Fin 2) :
    (shapeCast S4096x16x12x2x12x2 X shapeCasts_S4096x16x24x24_S4096x16x12x2x12x2 : S4096x16x12x2x12x2.Idx → EReal)
        (ix6 n c i p j q)
      = X (ix4 n c ⟨2 * i.val + p.val, by omega⟩ ⟨2 * j.val + q.val, by omega⟩) := by
  pointwise []
  refine congrArg X ?_
  congr 1 <;> exact Fin.ext (by show _ = _; dsimp only; omega)

/-- The pooled maps. -/
theorem pool (V0 : Valuation τ sig (Elt Ideal)) (A : Net.Args) (hA : args V0 = A) (n : Fin 4096) (c : Fin 16) (i j : Fin 12) :
    (res_main_v156 V0 : S4096x16x12x12.Idx → EReal) (ix4 n c i j) = Net.pool A n c i j := by
  obtain ⟨X, hX, act⟩ : ∃ X : S4096x16x24x24.Idx → EReal,
      (res_main_v156 V0 : S4096x16x12x12.Idx → EReal)
        = Host.reduce (FloatOps.maximumf (F := Ideal) (φ := .f32))
            (shapeCast S4096x16x12x2x12x2 X shapeCasts_S4096x16x24x24_S4096x16x12x2x12x2)
            (constant (F := Ideal) S_ .f32 0xFF800000#32) reducesTo_S4096x16x12x2x12x2_S4096x16x12x12_d3_5 h_S_
        ∧ ∀ i j : Fin 24, X (ix4 n c i j) = Net.act1 A n c i j := by
    refine ⟨_, rfl, fun i j => ?_⟩
    unfold Net.act1
    rw [conv1_taps, ← taps18 V0 A hA]
    subst hA
    generalize res_main_v108 V0 = P
    pointwise []
    simp only [Fin.sum_univ_one, Nat.add_comm 1, Nat.add_comm 2, Nat.add_comm 3, Nat.add_comm 4]
    rfl
  rw [hX, reduce_pool]
  simp only [windows, act]
  rfl

/-! ## The second convolution -/

/-- One tap of the second convolution. -/
def tap2 (A : Net.Args) (n : Fin 4096) (o : Fin 32) (i j : Fin 10) (di dj : Fin 3) : EReal :=
  ∑ c : Fin 16, A.w2 o c di dj * Net.pool A n c ⟨i.val + di.val, by omega⟩ ⟨j.val + dj.val, by omega⟩

/-- The taps of the second convolution in order. -/
theorem conv2_taps (A : Net.Args) (n : Fin 4096) (o : Fin 32) (i j : Fin 10) :
    Net.conv2 A n o i j
      = tap2 A n o i j 0 0 + tap2 A n o i j 0 1 + tap2 A n o i j 0 2 + tap2 A n o i j 1 0
        + tap2 A n o i j 1 1 + tap2 A n o i j 1 2 + tap2 A n o i j 2 0 + tap2 A n o i j 2 1
        + tap2 A n o i j 2 2 := by
  unfold Net.conv2
  simp only [Fin.sum_univ_three, ← add_assoc]
  rfl

/-- The second convolution. -/
theorem conv2 (V0 : Valuation τ sig (Elt Ideal)) (A : Net.Args) (hA : args V0 = A) (n : Fin 4096) (o : Fin 32) (i j : Fin 10) :
    (res_main_v211 V0 : S4096x32x10x10.Idx → EReal) (ix4 n o i j) = Net.conv2 A n o i j := by
  have hp := pool V0 A hA n
  rw [conv2_taps]
  subst hA
  unfold res_main_v211
  generalize res_main_v156 V0 = P at hp ⊢
  pointwise []
  simp only [hp, Nat.add_comm 1, Nat.add_comm 2]
  rfl

/-- The features. -/
theorem feat (V0 : Valuation τ sig (Elt Ideal)) (A : Net.Args) (hA : args V0 = A) (n : Fin 4096) (k : Fin 3200) :
    (res_main_v216 V0 : S4096x3200.Idx → EReal) (ix2 n k) = Net.feat A n k := by
  have hc := conv2 V0 A hA n
  subst hA
  unfold res_main_v216
  generalize res_main_v211 V0 = P at hc ⊢
  pointwise []
  rw [hc]
  rfl

end Cert.Proof.Reference

end
-- ==== Proof.Route.lean ====
/-
  The choice of the three experts. A program that counts, for each expert, the experts before it and keeps those with
  fewer than three, and a program that sorts the five logits and takes the first three, mix the same experts with the
  same weights, where the logits are finite.
-/
module

public import proofs.«01_k».proof.Proof.Spec
public import Idealize.ShloMosaic.Lib.PlanTiles.StableSort

@[expose] public section

noncomputable section

namespace Cert.Proof.Net

open Idealize.ShloMosaic
open scoped BigOperators

/-- The expert at place `k` when the five are sorted by descending logit, equal ones in index order. -/
def place (L : Fin 5 → EReal) (k : Fin 5) : Fin 5 := sortedFrom (fun a b => decide (L b < L a)) k

/-- The number of logits below `e`'s: an order-preserving copy of the logits in the naturals. -/
def below (L : Fin 5 → EReal) (e : Fin 5) : ℕ := (Finset.univ.filter fun f => L f < L e).card

theorem below_lt (L : Fin 5 → EReal) (a b : Fin 5) : below L a < below L b ↔ L a < L b := by
  have mono : ∀ a b : Fin 5, L a ≤ L b → below L a ≤ below L b := fun a b h =>
    Finset.card_le_card fun f hf => by
      simp only [Finset.mem_filter, Finset.mem_univ, true_and] at hf ⊢
      exact lt_of_lt_of_le hf h
  constructor
  · intro h
    by_contra hc
    exact absurd (mono b a (not_lt.1 hc)) (not_le.2 h)
  · intro h
    refine Finset.card_lt_card ⟨fun f hf => ?_, fun hs => ?_⟩
    · simp only [Finset.mem_filter, Finset.mem_univ, true_and] at hf ⊢
      exact lt_trans hf h
    · have : a ∈ Finset.univ.filter fun f => L f < L a := hs (by simpa using h)
      simp at this

/-- An earlier place holds an expert before the later place's. -/
theorem before_place (L : Fin 5 → EReal) (i j : Fin 5) (h : i < j) : Before L (place L i) (place L j) := by
  have hs := PlanTiles.pairwise_stableSort_lex (below L) (· < ·) (List.finRange 5) (List.pairwise_lt_finRange 5)
  have hf : (fun x y => decide (below L y < below L x)) = fun a b : Fin 5 => decide (L b < L a) := by
    funext a b
    simp only [below_lt]
  rw [hf] at hs
  have hp := List.pairwise_iff_get.mp hs ⟨i.val, by rw [length_stableSort, List.length_finRange]; exact i.isLt⟩
    ⟨j.val, by rw [length_stableSort, List.length_finRange]; exact j.isLt⟩ h
  have hp' : PlanTiles.Lex (below L) (· < ·) (place L i) (place L j) := hp
  rcases hp' with h1 | ⟨h1, h2⟩
  · exact Or.inl ((below_lt L _ _).1 h1)
  · refine Or.inr ⟨le_antisymm (not_lt.1 fun hc => ?_) (not_lt.1 fun hc => ?_), h2⟩
    · exact absurd ((below_lt L _ _).2 hc) (by omega)
    · exact absurd ((below_lt L _ _).2 hc) (by omega)

/-- Of two experts at most one is before the other. -/
theorem before_asymm (L : Fin 5 → EReal) (a b : Fin 5) (h : Before L a b) : ¬ Before L b a := by
  rintro (h2 | ⟨h2, h3⟩)
  · rcases h with h | ⟨h, -⟩
    · exact lt_asymm h h2
    · exact absurd h2 (by rw [h]; exact lt_irrefl _)
  · rcases h with h | ⟨-, h⟩
    · exact absurd h (by rw [h2]; exact lt_irrefl _)
    · exact lt_asymm h h3

theorem before_place_iff (L : Fin 5 → EReal) (i j : Fin 5) : Before L (place L i) (place L j) ↔ i < j := by
  constructor
  · intro h
    by_contra hc
    rcases lt_or_eq_of_le (not_lt.1 hc) with h1 | h1
    · exact before_asymm L _ _ h (before_place L j i h1)
    · subst h1
      exact before_asymm L _ _ h h
  · exact before_place L i j

/-- The five places as a permutation of the experts. -/
def places (L : Fin 5 → EReal) : Equiv.Perm (Fin 5) :=
  Equiv.ofBijective (place L) ⟨sortedFrom_injective _, sortedFrom_surjective _⟩

/-- The expert at place `k` has `k` experts before it. -/
theorem rank_place (L : Fin 5 → EReal) (k : Fin 5) : rank L (place L k) = k.val := by
  unfold rank
  rw [← Equiv.sum_comp (places L)]
  show ∑ i : Fin 5, (if Before L (place L i) (place L k) then 1 else 0) = k.val
  simp only [before_place_iff, Fin.sum_univ_five]
  fin_cases k <;> rfl

theorem le_top (L : Fin 5 → EReal) (e : Fin 5) : L e ≤ top L := by
  unfold top
  fin_cases e <;> simp

/-- The first place holds the greatest logit. -/
theorem place_zero (L : Fin 5 → EReal) : L (place L 0) = top L := by
  have hle : ∀ e, L e ≤ L (place L 0) := fun e => by
    obtain ⟨k, rfl⟩ := (places L).surjective e
    show L (place L k) ≤ L (place L 0)
    rcases Nat.eq_zero_or_pos k.val with h | h
    · rw [show k = 0 from Fin.ext h]
    · rcases before_place L 0 k h with h1 | ⟨h1, -⟩
      · exact le_of_lt h1
      · exact le_of_eq h1.symm
  refine le_antisymm (le_top L _) ?_
  unfold top
  simp only [max_le_iff, hle, and_self]

/-- The greatest of the first three places' logits is the greatest of all. -/
theorem max_places (L : Fin 5 → EReal) : max (max (max ⊥ (L (place L 0))) (L (place L 1))) (L (place L 2)) = top L := by
  rw [show max (⊥ : EReal) (L (place L 0)) = L (place L 0) from max_eq_right bot_le, place_zero L, max_eq_left (le_top L _),
    max_eq_left (le_top L _)]

theorem exp_nonneg (x : EReal) : 0 ≤ Ideal.exp x := by
  induction x using EReal.rec with
  | bot => exact le_refl _
  | top => exact _root_.le_top
  | coe r => exact EReal.coe_nonneg.2 (Real.exp_pos r).le

theorem exp_sub_self (r : ℝ) : Ideal.exp ((r : EReal) - r) = 1 := by
  rw [← EReal.coe_sub, sub_self]
  show ((Real.exp 0 : ℝ) : EReal) = 1
  rw [Real.exp_zero]
  rfl

/-- The weight of the expert at place `k` among the first three. -/
def weight (L : Fin 5 → EReal) (k : Fin 3) : EReal := Ideal.exp (L (place L (k.castLE (by decide))) - top L)

/-- Counting the experts before each one and sorting the experts give the same mixture, where the logits are finite. -/
theorem mix_eq_places (L O : Fin 5 → EReal) (hL : ∀ e, ∃ r : ℝ, L e = r) :
    mix L O = ∑ k : Fin 3, Ideal.div (weight L k) (∑ k' : Fin 3, weight L k') * O (place L (k.castLE (by decide))) := by
  have hg : ∀ k : Fin 5, gate L (place L k) = if k.val < 3 then Ideal.exp (L (place L k) - top L) else 0 := fun k => by
    unfold gate
    rw [rank_place]
  have hsum : ∑ f : Fin 5, gate L f = ∑ k : Fin 3, weight L k := by
    rw [← Equiv.sum_comp (places L)]
    show ∑ i : Fin 5, gate L (place L i) = _
    rw [Fin.sum_univ_five, Fin.sum_univ_three, hg, hg, hg, hg, hg]
    simp [weight]
  have hne : ∑ k : Fin 3, weight L k ≠ 0 := by
    obtain ⟨r, hr⟩ := hL (place L 0)
    have h0 : weight L 0 = 1 := by
      show Ideal.exp (L (place L 0) - top L) = 1
      rw [← place_zero, hr, exp_sub_self]
    rw [Fin.sum_univ_three, h0]
    refine ne_of_gt (lt_of_lt_of_le (zero_lt_one (α := EReal)) ?_)
    have := add_le_add (add_le_add (le_refl (1 : EReal)) (exp_nonneg (L (place L 1) - top L))) (exp_nonneg (L (place L 2) - top L))
    rw [add_zero, add_zero] at this
    exact this
  unfold mix
  rw [hsum, ← Equiv.sum_comp (places L)]
  show ∑ i : Fin 5, Ideal.div (gate L (place L i)) _ * O (place L i) = _
  have hz : ∀ S : EReal, S ≠ 0 → Ideal.div 0 S = 0 := fun S hS => by
    unfold Ideal.div
    rw [if_neg hS, zero_mul]
  generalize ∑ k : Fin 3, weight L k = S at hne ⊢
  rw [Fin.sum_univ_five, Fin.sum_univ_three, hg, hg, hg, hg, hg]
  have e3 : ¬ ((3 : Fin 5).val < 3) := by decide
  have e4 : ¬ ((4 : Fin 5).val < 3) := by decide
  rw [if_neg e3, if_neg e4, hz _ hne, zero_mul, zero_mul, add_zero, add_zero]
  rfl

end Cert.Proof.Net

end
-- ==== Proof.ReferenceSelect.lean ====
/-
  The reference's selection of three experts: the sort of the five logits of a row and the gather of the experts' outputs.
-/
module

public import proofs.«01_k».proof.Proof.ReferenceConv
public import proofs.«01_k».proof.Proof.Route

@[expose] public section

set_option maxRecDepth 16384

noncomputable section

namespace Cert.Proof.Reference

open Idealize.ShloMosaic Idealize.ShloMosaic.TcCoe Cert.ReferenceIdeal Cert.ReferenceIdeal.Gen Cert.ReferenceIdeal.Value
open Idealize.ShloMosaic.StableHlo
open scoped BigOperators

/-- Moving along the second axis. -/
theorem along_second (j : S4096x5.Idx) (e : Fin 5) : j.along (1 : Fin 2) e = ix2 (j 0) e := by
  unfold Shape.Idx.along
  funext a
  fin_cases a <;> rfl

/-- Both results of the sort by descending logit at a place. -/
theorem sort_read (x : S4096x5.Idx → EReal) (y : S4096x5.Idx → BitVec 32) (L : Fin 5 → EReal) (n : Fin 4096)
    (hx : ∀ e, x (ix2 n e) = L e) (p : Fin 5) :
    (Host.sort2 S4096x5 1 (fun l r => FloatOps.cmpfTotal (F := Ideal) (φ := .f32) .gt l.1 r.1) x y).1 (ix2 n p)
        = L (Net.place L p)
      ∧ (Host.sort2 S4096x5 1 (fun l r => FloatOps.cmpfTotal (F := Ideal) (φ := .f32) .gt l.1 r.1) x y).2 (ix2 n p)
        = y (ix2 n (Net.place L p)) := by
  have hd : 1 < S4096x5.rank := by decide
  have hs : sortedFrom (n := 5) (fun a b : Fin 5 =>
      FloatOps.cmpfTotal (F := Ideal) (φ := .f32) .gt (x ((ix2 n p).along (1 : Fin 2) a)) (x ((ix2 n p).along (1 : Fin 2) b)) == 1#1) p
      = Net.place L p := by
    have hf : (fun a b : Fin 5 =>
        FloatOps.cmpfTotal (F := Ideal) (φ := .f32) .gt (x ((ix2 n p).along (1 : Fin 2) a)) (x ((ix2 n p).along (1 : Fin 2) b))
          == 1#1) = fun a b => decide (L b < L a) := by
      funext a b
      have ea : x ((ix2 n p).along (1 : Fin 2) a) = L a := (congrArg x (along_second _ _)).trans (hx a)
      have eb : x ((ix2 n p).along (1 : Fin 2) b) = L b := (congrArg x (along_second _ _)).trans (hx b)
      rw [ea, eb]
      show (BitVec.ofBool (decide (L b < L a)) == 1#1) = decide (L b < L a)
      cases decide (L b < L a) <;> rfl
    rw [hf]
    rfl
  unfold Host.sort2
  rw [dif_pos hd]
  refine ⟨?_, ?_⟩
  · refine (congrArg (fun e : Fin 5 => x ((ix2 n p).along (1 : Fin 2) e)) hs).trans ?_
    exact (congrArg x (along_second _ _)).trans (hx _)
  · refine (congrArg (fun e : Fin 5 => y ((ix2 n p).along (1 : Fin 2) e)) hs).trans ?_
    exact congrArg y (along_second _ _)

/-- The first three columns of an array of five. -/
theorem first_three {T : Type} (Y : S4096x5.Idx → T) (n : Fin 4096) (k : Fin 3) :
    extractStridedSlice S4096x3 (fun _ => 0) Y sliceFits_S4096x5_S4096x3 (ix2 n k) = Y (ix2 n (k.castLE (by decide))) := by
  refine congrArg Y (funext fun a => Fin.ext ?_)
  fin_cases a
  · show 0 + n.val = n.val
    omega
  · show 0 + k.val = k.val
    omega

/-- The three greatest logits of a row, in order, and where they stand. -/
theorem top_three (x : S4096x5.Idx → EReal) (L : Fin 5 → EReal) (n : Fin 4096) (hx : ∀ e, x (ix2 n e) = L e) (k : Fin 3) :
    (Host.topK (s := S4096x5) S4096x3 1 (FloatOps.cmpfTotal (F := Ideal) (φ := .f32) .gt) x sliceFits_S4096x5_S4096x3).1
          (ix2 n k) = L (Net.place L (k.castLE (by decide)))
      ∧ (Host.topK (s := S4096x5) S4096x3 1 (FloatOps.cmpfTotal (F := Ideal) (φ := .f32) .gt) x sliceFits_S4096x5_S4096x3).2
          (ix2 n k) = BitVec.ofNat 32 (Net.place L (k.castLE (by decide))).val := by
  have hr := sort_read x (iotaInDim S4096x5 32 (1 : Fin 2)) L n hx (k.castLE (by decide))
  unfold Host.topK
  exact ⟨(first_three (Host.sort2 S4096x5 1 _ x (iotaInDim S4096x5 32 (1 : Fin 2))).1 n k).trans hr.1,
    (first_three (Host.sort2 S4096x5 1 _ x (iotaInDim S4096x5 32 (1 : Fin 2))).2 n k).trans hr.2⟩

/-- The gather takes, for image `n` and choice `k`, the row of the expert that the index array names there. -/
theorem gather_read (X : S4096x5x128.Idx → EReal) (idx : IVec S4096x3x1 32) (n : Fin 4096) (k : Fin 3) (h : Fin 128)
    (e : Fin 5) (he : idx (ix3 n k 0) = BitVec.ofNat 32 e.val) :
    Host.gather gather_S4096x5x128_S4096x3x1_S4096x3x128_2_1_0_0_1_2_11128 X idx (ix3 n k h) = X (ix3 n e h) := by
  unfold Host.gather
  refine congrArg X (funext fun a => Fin.ext ?_)
  fin_cases a
  · show 0 + n.val + 0 = n.val
    omega
  · have hi : ∀ q, idx (gather_S4096x5x128_S4096x3x1_S4096x3x128_2_1_0_0_1_2_11128.siIdx (ix3 n k h) q)
        = BitVec.ofNat 32 e.val := fun q => by
      rw [← he]
      refine congrArg idx (funext fun b => ?_)
      fin_cases b
      · rfl
      · rfl
      · exact Subsingleton.elim (α := Fin 1) _ _
    show min (idx _).toInt.toNat 4 + 0 + 0 = e.val
    rw [hi]
    fin_cases e <;> rfl
  · show 0 + 0 + h.val = h.val
    omega

/-- The greatest of three, as a fold from below. -/
theorem fold_three (f : Fin 3 → EReal) : (Finset.univ : Finset (Fin 3)).fold max ⊥ f = max (max (max ⊥ (f 0)) (f 1)) (f 2) := by
  have hu : (Finset.univ : Finset (Fin 3)) = {2, 1, 0} := by decide
  rw [hu, Finset.fold_insert (by decide), Finset.fold_insert (by decide), Finset.fold_singleton]
  rw [max_comm (f 2), max_comm (f 1), max_comm (f 0)]

/-- The word of an expert passes the test that guards the gather: it is at least 0 and at most 4. -/
theorem guard_passes (e : Fin 5) (f : Fin 1 → BitVec 32) (hf : f 0 = BitVec.ofNat 32 e.val) (a b : EReal) :
    Scalar.select (Finset.univ.fold IntOp.andi 1#1 fun q : Fin 1 =>
      IntOp.andi (IntOp.cmpi .sge (f q) 0#32) (IntOp.cmpi .sle (f q) 4#32)) a b = a := by
  rw [Finset.univ_unique, Finset.fold_singleton]
  show Scalar.select (IntOp.andi (IntOp.andi (IntOp.cmpi .sge (f 0) 0#32) (IntOp.cmpi .sle (f 0) 4#32)) 1#1) a b = a
  rw [hf]
  fin_cases e <;> rfl

/-! ## Finite logits -/

/-- The hyperbolic tangent is a real number. -/
theorem tanh_real (x : EReal) : ∃ r : ℝ, Ideal.tanh x = r := by
  induction x with
  | bot => exact ⟨-1, rfl⟩
  | coe x => exact ⟨Real.tanh x, rfl⟩
  | top => exact ⟨1, rfl⟩

/-- The logistic function is a real number. -/
theorem logistic_real (x : EReal) : ∃ r : ℝ, Ideal.logistic x = r := by
  induction x with
  | bot =>
    refine ⟨0, ?_⟩
    show Ideal.div 1 (1 + Ideal.exp (-⊥)) = ((0 : ℝ) : EReal)
    rw [EReal.neg_bot]
    show Ideal.div 1 (1 + ⊤) = ((0 : ℝ) : EReal)
    have h1 : (1 : EReal) + ⊤ = ⊤ := EReal.coe_add_top 1
    rw [h1]
    simp [Ideal.div]
  | coe x =>
    have hp : (1 + Real.exp (-x) : ℝ) ≠ 0 := by positivity
    have hp' : ((1 + Real.exp (-x) : ℝ) : EReal) ≠ 0 := by exact_mod_cast hp
    refine ⟨1 * (1 + Real.exp (-x))⁻¹, ?_⟩
    have h1 : (1 : EReal) + Ideal.exp (-(x : EReal)) = ((1 + Real.exp (-x) : ℝ) : EReal) := by
      rw [EReal.coe_add]
      rfl
    show Ideal.div 1 (1 + Ideal.exp (-(x : EReal))) = _
    rw [h1, Ideal.div, if_neg hp', EReal.coe_mul, EReal.coe_inv]
    rfl
  | top =>
    refine ⟨1, ?_⟩
    show Ideal.div 1 (1 + Ideal.exp (-⊤)) = ((1 : ℝ) : EReal)
    rw [EReal.neg_top]
    show Ideal.div 1 (1 + 0) = ((1 : ℝ) : EReal)
    simp [Ideal.div]

/-- A finite sum of real numbers is one. -/
theorem sum_real {N : ℕ} (f : Fin N → EReal) (hf : ∀ i, ∃ r : ℝ, f i = r) : ∃ r : ℝ, ∑ i : Fin N, f i = r := by
  refine Finset.sum_induction f (fun x => ∃ r : ℝ, x = r) ?_ ⟨0, rfl⟩ fun i _ => hf i
  rintro x y ⟨a, rfl⟩ ⟨b, rfl⟩
  exact ⟨a + b, rfl⟩

/-- A router with finite output weights gives finite logits. -/
theorem logit_real (A : Net.Args) (hw : ∀ h e, ∃ r : ℝ, A.wo h e = r) (hb : ∀ e, ∃ r : ℝ, A.bo e = r) (n : Fin 4096)
    (e : Fin 5) : ∃ r : ℝ, Net.logit A n e = r := by
  obtain ⟨b, hb⟩ := hb e
  obtain ⟨s, hs⟩ := sum_real (fun h : Fin 128 => Net.glu A n h * A.wo h e) fun h => by
    obtain ⟨t, ht⟩ := tanh_real (Net.lin A n A.wg A.bg h)
    obtain ⟨l, hl⟩ := logistic_real (Net.lin A n A.wv A.bv h)
    obtain ⟨w, hw⟩ := hw h e
    exact ⟨t * l * w, by unfold Net.glu; rw [ht, hl, hw, ← EReal.coe_mul, ← EReal.coe_mul]⟩
  exact ⟨s + b, by unfold Net.logit; rw [hs, hb, ← EReal.coe_add]⟩

end Cert.Proof.Reference

end
-- ==== Proof.ReferenceRoute.lean ====
/-
  The reference's program from the features on, entry by entry: the router, the three experts it chooses, the mixture, the
  last layer and its softmax.
-/
module

public import proofs.«01_k».proof.Proof.ReferenceSelect
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Gen Cert.ReferenceIdeal.Value
open Idealize.ShloMosaic.StableHlo
open scoped BigOperators

/-- The router's logits. -/
theorem logits (V0 : Valuation τ sig (Elt Ideal)) (A : Net.Args) (hA : args V0 = A) (n : Fin 4096) (e : Fin 5) :
    (res_main_v236 V0 : S4096x5.Idx → EReal) (ix2 n e) = Net.logit A n e := by
  have hc := feat V0 A hA n
  subst hA
  unfold res_main_v236
  generalize res_main_v216 V0 = P at hc ⊢
  pointwise []
  simp only [hc]
  rfl

/-- The logits of the three chosen experts. -/
theorem chosen_logit (V0 : Valuation τ sig (Elt Ideal)) (A : Net.Args) (hA : args V0 = A) (n : Fin 4096) (k : Fin 3) :
    (res_main_values V0 : S4096x3.Idx → EReal) (ix2 n k)
      = Net.logit A n (Net.place (Net.logit A n) (k.castLE (by decide))) :=
  (top_three (res_main_v236 V0) (Net.logit A n) n (logits V0 A hA n) k).1

/-- The places of the three chosen experts. -/
theorem chosen_place (V0 : Valuation τ sig (Elt Ideal)) (A : Net.Args) (hA : args V0 = A) (n : Fin 4096) (k : Fin 3) :
    (res_main_v259 V0 : S4096x3x1.Idx → BitVec 32) (ix3 n k 0)
      = BitVec.ofNat 32 (Net.place (Net.logit A n) (k.castLE (by decide))).val := by
  refine Eq.trans ?_ (top_three (res_main_v236 V0) (Net.logit A n) n (logits V0 A hA n) k).2
  unfold res_main_v259
  pointwise []

/-- The words that index the gather. -/
theorem chosen_word (V0 : Valuation τ sig (Elt Ideal)) (A : Net.Args) (hA : args V0 = A) (n : Fin 4096) (k : Fin 3) :
    (res_main_call0_v4 V0 : S4096x3x1.Idx → BitVec 32) (ix3 n k 0)
      = BitVec.ofNat 32 (Net.place (Net.logit A n) (k.castLE (by decide))).val := by
  have hc := chosen_place V0 A hA n k
  generalize Net.place (Net.logit A n) (k.castLE (by decide)) = e at hc ⊢
  unfold res_main_call0_v4
  generalize res_main_v259 V0 = P at hc ⊢
  pointwise []
  rw [hc]
  fin_cases e <;> rfl

/-- The unnormalized gates of the three chosen experts. -/
theorem weights (V0 : Valuation τ sig (Elt Ideal)) (A : Net.Args) (hA : args V0 = A) (n : Fin 4096) (k : Fin 3) :
    (res_main_v243 V0 : S4096x3.Idx → EReal) (ix2 n k) = Net.weight (Net.logit A n) k := by
  have hc := chosen_logit V0 A hA n
  unfold res_main_v243
  generalize res_main_values V0 = P at hc ⊢
  clean_types
  pointwise []
  simp only [hc]
  rw [Net.ofBits_bottom, fold_three]
  refine congrArg (fun t => Ideal.exp (_ - t)) ((max_eq_right bot_le).trans (Net.max_places _))

/-- The last layer, where the logits are finite. -/
theorem last (V0 : Valuation τ sig (Elt Ideal)) (A : Net.Args) (hA : args V0 = A)
    (hL : ∀ n e, ∃ r : ℝ, Net.logit A n e = r) (n : Fin 4096) (j : Fin 10) :
    (res_main_v268 V0 : S4096x10.Idx → EReal) (ix2 n j) = Net.last A n j := by
  have hi := chosen_word V0 A hA n
  have hw := weights V0 A hA n
  have hf := feat V0 A hA n
  unfold res_main_v268
  generalize res_main_call0_v4 V0 = X at hi ⊢
  generalize res_main_v216 V0 = Y at hf ⊢
  generalize res_main_v243 V0 = Z at hw ⊢
  clean_types
  pointwise []
  unfold Net.last
  subst hA
  refine congrArg₂ (· + ·) (Finset.sum_congr rfl fun h _ => congrArg₂ (· * ·) ?_ rfl) rfl
  rw [Net.mix_eq_places _ _ (hL n)]
  refine Finset.sum_congr rfl fun k _ => ?_
  simp only [hw]
  refine congrArg₂ (· * ·) rfl ?_
  refine (guard_passes _ (fun q => X (ix3 n k q)) (hi k) _ _).trans ?_
  refine (gather_read _ _ n k h _ (hi k)).trans ?_
  generalize Net.place (Net.logit (args V0) n) (k.castLE _) = e
  clean_types
  pointwise []
  simp only [hf]
  unfold Net.expert
  refine congrArg Ideal.tanh (congrArg₂ (· + ·) (Finset.sum_congr rfl fun k _ => ?_) rfl)
  exact mul_comm _ _

/-- The exponentials of the last softmax. -/
theorem exps (V0 : Valuation τ sig (Elt Ideal)) (A : Net.Args) (hA : args V0 = A)
    (hL : ∀ n e, ∃ r : ℝ, Net.logit A n e = r) (n : Fin 4096) (j : Fin 10) :
    (res_main_v275 V0 : S4096x10.Idx → EReal) (ix2 n j) = Ideal.exp (Net.last A n j - Net.rowMax (Net.last A n)) := by
  have hc := last V0 A hA hL n
  unfold res_main_v275
  generalize res_main_v268 V0 = P at hc ⊢
  clean_types
  pointwise []
  simp only [hc]
  rw [Net.ofBits_bottom, max_eq_right bot_le]
  rfl

/-- The reference's result at an entry is the network's. -/
theorem result (V0 : Valuation τ sig (Elt Ideal)) (A : Net.Args) (hA : args V0 = A)
    (hL : ∀ n e, ∃ r : ℝ, Net.logit A n e = r) (n : Fin 4096) (j : Fin 10) :
    (Host.divf (F := Ideal) (φ := .f32) (res_main_v275 V0) (broadcastInDim S4096x10 ![0, 1] bcast_S4096x1_S4096x10_0_1
      (broadcastInDim S4096x1 ![0] bcast_S4096_S4096x1_0
        (Host.reduceAdd (res_main_v275 V0) (constant S_ .f32 0x00000000#32) reducesTo_S4096x10_S4096_d1 h_S_))) : S4096x10.Idx → EReal)
      (ix2 n j) = Net.out A n j := by
  have hc := exps V0 A hA hL n
  generalize res_main_v275 V0 = P at hc ⊢
  clean_types
  pointwise []
  simp only [hc]
  rfl

end Cert.Proof.Reference

end
-- ==== Proof.Algebraic.lean ====
/-
  The two programs over the extended reals end with equal results: both results are the network of the arguments.
-/
module

public import proofs.«01_k».proof.Defs
public import proofs.«01_k».proof.Proof.Finite
public import proofs.«01_k».proof.Proof.KernelArray
public import proofs.«01_k».proof.Proof.ReferenceRoute
public import proofs.«01_k».proof.Proof.Gen.KernelIdeal.Value
public import proofs.«01_k».proof.Proof.Gen.ReferenceIdeal.Run

@[expose] public section

noncomputable section

namespace Cert.Proof

open Idealize.ShloMosaic Idealize.SL.Sem Idealize.ShloMosaic.StableHlo

/-- The reference's result array, where the logits are finite, is the network of its arguments. -/
theorem reference_final (V0 : Valuation Cert.ReferenceIdeal.τ Cert.ReferenceIdeal.sig (Elt Ideal))
    (A : Net.Args) (hA : Reference.args V0 = A) (hL : ∀ n e, ∃ r : ℝ, Net.logit A n e = r) :
    (Host.divf (F := Ideal) (φ := .f32) (Cert.ReferenceIdeal.Value.res_main_v275 V0)
      (broadcastInDim Cert.ReferenceIdeal.S4096x10 ![0, 1] Cert.ReferenceIdeal.Gen.bcast_S4096x1_S4096x10_0_1
        (broadcastInDim Cert.ReferenceIdeal.S4096x1 ![0] Cert.ReferenceIdeal.Gen.bcast_S4096_S4096x1_0
          (Host.reduceAdd (Cert.ReferenceIdeal.Value.res_main_v275 V0) (constant Cert.ReferenceIdeal.S_ .f32 0x00000000#32)
            Cert.ReferenceIdeal.Gen.reducesTo_S4096x10_S4096_d1 Cert.ReferenceIdeal.Gen.h_S_)))
      : Cert.ReferenceIdeal.S4096x10.Idx → EReal) = KernelArray.whole A := by
  funext i
  have e : i = (ix2 (i 0) (i 1) : Cert.ReferenceIdeal.S4096x10.Idx) := eq_ix2 i
  exact (congrArg _ e).trans (Reference.result V0 A hA hL (i 0) (i 1))

/-- Where the precondition holds the logits are finite. -/
theorem logits_finite (m : (ℓ : Loc Cert.KernelIdeal.nD Cert.KernelIdeal.τ Cert.KernelIdeal.sig) → Buf (Elt Ideal) ℓ)
    (h : Cert.Pre_KernelIdeal_finite_router (hPre_finite_router := Finite.facts) m) (c : Dev Cert.KernelIdeal.nD)
    (n : Fin 4096) (e : Fin 5) : ∃ r : ℝ, Net.logit (KernelHost.args m c) n e = r :=
  Reference.logit_real _
    (fun k e => Finite.weights_real (hP := Finite.facts)
      (m ((c.tc : Thread Cert.KernelIdeal.nD Cert.KernelIdeal.τ).loc Cert.KernelIdeal.main_arg9)) (ix2 k e) (h c).1)
    (fun e => Finite.bias_real (hP := Finite.facts)
      (m ((c.tc : Thread Cert.KernelIdeal.nD Cert.KernelIdeal.τ).loc Cert.KernelIdeal.main_arg10)) (ix1 e) (h c).2) n e

/-- From memories that agree on the arguments, with a finite router, the kernel and the reference end with equal results. -/
theorem algebraic : Cert.algebraic_KernelIdeal_ReferenceIdeal_pre_finite_router (hKernelIdeal := Cert.KernelIdeal.Gen.facts)
    (hReferenceIdeal := Cert.ReferenceIdeal.Gen.facts) (hPre_finite_router := Finite.facts) := by
  intro m g m' g' hpre hargs
  have hA : ∀ c : Dev Cert.KernelIdeal.nD, Reference.args (launchContents m' c) = KernelHost.args m c := fun c => by
    obtain ⟨h0, h1, h2, h3, h4, h5, h6, h7, h8, h9, h10, h11, h12, h13, h14, h15, h16⟩ := hargs c
    unfold Reference.args KernelHost.args
    congr 1
  refine ⟨fun c => KernelArray.whole (KernelHost.args m c), ?_, ?_⟩
  · exact (θ_run Cert.KernelIdeal.defs _ _).mono
      (fun r h c => ⟨((h c).1.trans (KernelArray.final m c)), (h c).2⟩)
      (Cert.KernelIdeal.Value.run_blocks m g)
  · exact (θ_run Cert.ReferenceIdeal.defs _ _).mono
      (fun r h c => ⟨(h c).1.trans (reference_final _ _ (hA c) (logits_finite m hpre c)), (h c).2⟩)
      (Cert.ReferenceIdeal.Value.run m' g')

end Cert.Proof

end
-- ==== Proof.lean ====
/-
  The proof of `Cert.Claim`: the kernel (as printed and read at the extended reals) and the reference run and leave their
  arguments alone, idealizing changes nothing, and over the extended reals the kernel and the reference end with equal
  results where the router's last layer is finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.Algebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments alone and declares no semaphore. -/
theorem reference_runs : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- Every claim of the certificate. -/
theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ,
    fun m ρ _ => Cert.KernelIdeal.Gen.frame m ρ, reference_runs, fun m ρ _ => reference_runs m ρ trivial, trivial, algebraic⟩

end Cert.Proof

end
